-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_points" .f32 0x3D4CCCCD#32 ((1 / 20 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_unguarded_pre_finite [hKernelIdeal : Cert.KernelIdeal.Facts] [hPre_finite : Cert.Pre_finite.Facts] [hPost_near_unguarded : Cert.Post_near_unguarded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_unguarded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1)) (r.2.mem ((c.tc : Thread Cert.KernelIdeal.nD Cert.KernelIdeal.τ).loc Cert.KernelIdeal.main_v0_2))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_near_unguarded : Cert.Post_near_unguarded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_near_unguarded_pre_finite (hKernelIdeal := hKernelIdeal) (hPre_finite := hPre_finite) (hPost_near_unguarded := hPost_near_unguarded)
-- ==== Post_near_unguarded.lean ====
abbrev S2048x20x2 : Shape := ⟨3, ![2048, 20, 2]⟩
abbrev S512x20x2 : Shape := ⟨3, ![512, 20, 2]⟩
abbrev S2048x40 : Shape := ⟨2, ![2048, 40]⟩
abbrev S2048x1 : Shape := ⟨2, ![2048, 1]⟩
abbrev S2048x1x20x2 : Shape := ⟨4, ![2048, 1, 20, 2]⟩
abbrev S1x512x20x2 : Shape := ⟨4, ![1, 512, 20, 2]⟩
abbrev S2048x512x20x2 : Shape := ⟨4, ![2048, 512, 20, 2]⟩
abbrev S_ : Shape := ⟨0, ![]⟩
abbrev S2048x512x20 : Shape := ⟨3, ![2048, 512, 20]⟩
abbrev S2048x512 : Shape := ⟨2, ![2048, 512]⟩
abbrev S2048 : Shape := ⟨1, ![2048]⟩
abbrev S1 : Shape := ⟨1, ![1]⟩
abbrev S1x1 : Shape := ⟨2, ![1, 1]⟩
abbrev S2048x20 : Shape := ⟨2, ![2048, 20]⟩

class Facts : Prop where
  bcast_S2048x20x2_S2048x1x20x2_0_2_3 : S2048x20x2.BroadcastsInDim S2048x1x20x2 (![0, 2, 3] : Fin 3 → Fin S2048x1x20x2.rank)
  bcast_S512x20x2_S1x512x20x2_1_2_3 : S512x20x2.BroadcastsInDim S1x512x20x2 (![1, 2, 3] : Fin 3 → Fin S1x512x20x2.rank)
  bcast_S2048x1x20x2_S2048x512x20x2_0_1_2_3 : S2048x1x20x2.BroadcastsInDim S2048x512x20x2 (![0, 1, 2, 3] : Fin 4 → Fin S2048x512x20x2.rank)
  bcast_S1x512x20x2_S2048x512x20x2_0_1_2_3 : S1x512x20x2.BroadcastsInDim S2048x512x20x2 (![0, 1, 2, 3] : Fin 4 → Fin S2048x512x20x2.rank)
  reducesTo_S2048x512x20x2_S2048x512x20_d3 : S2048x512x20x2.ReducesTo [3] S2048x512x20
  h_S_ : 0 < S_.numel
  reducesTo_S2048x512x20_S2048x512_d2 : S2048x512x20.ReducesTo [2] S2048x512
  bcast_S_S2048x512 : S_.BroadcastsInDim S2048x512 (![] : Fin 0 → Fin S2048x512.rank)
  reducesTo_S2048x512_S2048_d1 : S2048x512.ReducesTo [1] S2048
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S2048x20x2_0 : S2048.BroadcastsInDim S2048x20x2 (![0] : Fin 1 → Fin S2048x20x2.rank)
  bcast_S_S2048x20x2 : S_.BroadcastsInDim S2048x20x2 (![] : Fin 0 → Fin S2048x20x2.rank)
  shapeCasts_S2048x20x2_S2048x40 : S2048x20x2.ShapeCasts S2048x40
  reducesTo_S2048x40_S2048_d1 : S2048x40.ReducesTo [1] S2048
  reducesTo_S2048x20x2_S2048x20_d2 : S2048x20x2.ReducesTo [2] S2048x20
  reducesTo_S2048x20_S2048_d1 : S2048x20.ReducesTo [1] S2048
  gather_S512x20x2_S2048x1_S2048x20x2_12_0_n_n_0_1_1202_wf : GatherDims.WF S512x20x2 S2048x1 S2048x20x2 [1, 2] [0] [] [0] [] 1 ![1, 20, 2]

variable [Facts]

def gather_S512x20x2_S2048x1_S2048x20x2_12_0_n_n_0_1_1202 : GatherDims S512x20x2 S2048x1 S2048x20x2 where
  offsetDims := [1, 2]
  collapsedSliceDims := [0]
  operandBatchingDims := []
  startIndicesBatchingDims := []
  startIndexMap := [0]
  indexVectorDim := 1
  sliceSizes := ![1, 20, 2]
  wf := gather_S512x20x2_S2048x1_S2048x20x2_12_0_n_n_0_1_1202_wf
def fn_where {F : FTy → Type} [FloatOps F] (arg0 : IVec S2048 1) (arg1 : IVec S2048 32) (arg2 : IVec S2048 32) : IVec S2048 32 :=
  let v0 : IVec S2048 32 := select arg0 arg1 arg2
  v0

def fn_take {F : FTy → Type} [FloatOps F] (arg0 : FVec F S512x20x2 .f32) (arg1 : IVec S2048 32) : FVec F S2048x20x2 .f32 :=
  let c : IVec S_ 32 := constantI S_ 32 0#32
  let v0 : IVec S2048 32 := broadcastInDim S2048 ![] bcast_S_S2048 c
  let v1 : IVec S2048 1 := cmpi .slt arg1 v0
  let c_0 : IVec S_ 32 := constantI S_ 32 512#32
  let v2 : IVec S2048 32 := broadcastInDim S2048 ![] bcast_S_S2048 c_0
  let v3 : IVec S2048 32 := addi arg1 v2
  let v4 : IVec S2048 32 := fn_where (F := F) v1 v3 arg1
  let v5 : IVec S2048x1 32 := broadcastInDim S2048x1 ![0] bcast_S2048_S2048x1_0 v4
  let c_1 : IVec S1 32 := constantI S1 32 511#32
  let c_2 : IVec S_ 32 := constantI S_ 32 0#32
  let v6 : IVec S2048x1 32 := broadcastInDim S2048x1 ![] bcast_S_S2048x1 c_2
  let v7 : IVec S2048x1 1 := cmpi .sge v5 v6
  let v8 : IVec S1x1 32 := broadcastInDim S1x1 ![1] bcast_S1_S1x1_1 c_1
  let v9 : IVec S2048x1 32 := broadcastInDim S2048x1 ![0, 1] bcast_S1x1_S2048x1_0_1 v8
  let v10 : IVec S2048x1 1 := cmpi .sle v5 v9
  let v11 : IVec S2048x1 1 := andi v7 v10
  let c_3 : IVec S_ 1 := constantI S_ 1 1#1
  let v12 : IVec S2048 1 := (fun x v => Host.reduce IntOp.andi x v reducesTo_S2048x1_S2048_d1 h_S_) v11 c_3
  let v13 : FVec F S2048x20x2 .f32 := (fun x i => Host.gather gather_S512x20x2_S2048x1_S2048x20x2_12_0_n_n_0_1_1202 x i) arg0 v5
  let v14 : IVec S2048x20x2 1 := broadcastInDim S2048x20x2 ![0] bcast_S2048_S2048x20x2_0 v12
  let cst : FVec F S_ .f32 := constant S_ .f32 0x7FC00000#32
  let v15 : FVec F S2048x20x2 .f32 := broadcastInDim S2048x20x2 ![] bcast_S_S2048x20x2 cst
  let v16 : FVec F S2048x20x2 .f32 := select v14 v13 v15
  v16

def fn_part2 {F : FTy → Type} [FloatOps F] (main_v11 : FVec F S2048 .f32) (main_v17 : IVec S2048 1) (main_v21 : IVec S2048 1) (main_v31 : IVec S2048 1) (main_v32 : FVec F S2048 .f32) (main_v35 : FVec F S2048 .f32) : IVec S2048 1 :=
  let main_v36 : FVec F S2048 .f32 := Host.exp main_v35
  let main_v37 : FVec F S2048 .f32 := subf main_v32 main_v36
  let main_v38 : FVec F S2048 .f32 := Host.absf main_v37
  let main_cst_10 : FVec F S_ .f32 := constant S_ .f32 0x2F5BE6FF#32
  let main_v39 : FVec F S2048 .f32 := broadcastInDim S2048 ![] bcast_S_S2048 main_cst_10
  let main_v40 : IVec S2048 1 := cmpf .ole main_v38 main_v39
  let main_cst_11 : FVec F S_ .f32 := constant S_ .f32 0x40000000#32
  let main_v41 : FVec F S2048 .f32 := broadcastInDim S2048 ![] bcast_S_S2048 main_cst_11
  let main_v42 : IVec S2048 1 := cmpf .ole main_v11 main_v41
  let main_v43 : IVec S2048 1 := andi main_v40 main_v42
  let main_cst_12 : FVec F S_ .f32 := constant S_ .f32 0x00000000#32
  let main_v44 : FVec F S2048 .f32 := broadcastInDim S2048 ![] bcast_S_S2048 main_cst_12
  let main_v45 : IVec S2048 1 := cmpf .oeq main_v32 main_v44
  let main_cst_13 : FVec F S_ .f32 := constant S_ .f32 0x2F5BE6FF#32
  let main_v46 : FVec F S2048 .f32 := broadcastInDim S2048 ![] bcast_S_S2048 main_cst_13
  let main_v47 : FVec F S2048 .f32 := addf main_v11 main_v46
  let main_cst_14 : FVec F S_ .f32 := constant S_ .f32 0x40000000#32
  let main_v48 : FVec F S2048 .f32 := broadcastInDim S2048 ![] bcast_S_S2048 main_cst_14
  let main_v49 : IVec S2048 1 := cmpf .ogt main_v47 main_v48
  let main_v50 : IVec S2048 1 := andi main_v45 main_v49
  let main_v51 : IVec S2048 1 := ori main_v43 main_v50
  let main_v52 : IVec S2048 1 := andi main_v17 main_v21
  let main_v53 : IVec S2048 1 := andi main_v52 main_v31
  let main_v54 : IVec S2048 1 := andi main_v53 main_v51
  main_v54

def fn_part1 {F : FTy → Type} [FloatOps F] (main_arg0 : FVec F S2048x20x2 .f32) (main_arg1 : FVec F S512x20x2 .f32) (main_arg2 : FVec F S2048x40 .f32) (main_arg3 : FVec F S2048x1 .f32) (main_v11 : FVec F S2048 .f32) (main_v12 : IVec S2048 32) (main_v17 : IVec S2048 1) : IVec S2048 1 :=
  let main_v18 : FVec F S2048x20x2 .f32 := fn_take (F := F) main_arg1 main_v12
  let main_v19 : FVec F S2048x40 .f32 := shapeCast S2048x40 main_v18 shapeCasts_S2048x20x2_S2048x40
  let main_v20 : IVec S2048x40 1 := cmpf .oeq main_arg2 main_v19
  let main_c_4 : IVec S_ 1 := constantI S_ 1 1#1
  let main_v21 : IVec S2048 1 := (fun x v => Host.reduce IntOp.andi x v reducesTo_S2048x40_S2048_d1 h_S_) main_v20 main_c_4
  let main_v22 : FVec F S2048x20x2 .f32 := subf main_arg0 main_v18
  let main_v23 : FVec F S2048x20x2 .f32 := mulf main_v22 main_v22
  let main_cst_5 : FVec F S_ .f32 := constant S_ .f32 0x00000000#32
  let main_v24 : FVec F S2048x20 .f32 := (fun x v => Host.reduceAdd x v reducesTo_S2048x20x2_S2048x20_d2 h_S_) main_v23 main_cst_5
  let main_v25 : FVec F S2048x20 .f32 := Host.sqrt main_v24
  let main_cst_6 : FVec F S_ .f32 := constant S_ .f32 0x00000000#32
  let main_v26 : FVec F S2048 .f32 := (fun x v => Host.reduceAdd x v reducesTo_S2048x20_S2048_d1 h_S_) main_v25 main_cst_6
  let main_cst_7 : FVec F S_ .f32 := constant S_ .f32 0x41A00000#32
  let main_v27 : FVec F S2048 .f32 := broadcastInDim S2048 ![] bcast_S_S2048 main_cst_7
  let main_v28 : FVec F S2048 .f32 := Host.divf main_v26 main_v27
  let main_cst_8 : FVec F S_ .f32 := constant S_ .f32 0x2F5BE6FF#32
  let main_v29 : FVec F S2048 .f32 := broadcastInDim S2048 ![] bcast_S_S2048 main_cst_8
  let main_v30 : FVec F S2048 .f32 := addf main_v11 main_v29
  let main_v31 : IVec S2048 1 := cmpf .ole main_v28 main_v30
  let main_v32 : FVec F S2048 .f32 := shapeCast S2048 main_arg3 shapeCasts_S2048x1_S2048
  let main_v33 : FVec F S2048 .f32 := Host.negf main_v11
  let main_cst_9 : FVec F S_ .f32 := constant S_ .f32 0x3F800000#32
  let main_v34 : FVec F S2048 .f32 := broadcastInDim S2048 ![] bcast_S_S2048 main_cst_9
  let main_v35 : FVec F S2048 .f32 := Host.divf main_v33 main_v34
  fn_part2 (F := F) main_v11 main_v17 main_v21 main_v31 main_v32 main_v35

def fn {F : FTy → Type} [FloatOps F] (main_arg0 : FVec F S2048x20x2 .f32) (main_arg1 : FVec F S512x20x2 .f32) (main_arg2 : FVec F S2048x40 .f32) (main_arg3 : FVec F S2048x1 .f32) (main_arg4 : IVec S2048x1 32) : IVec S2048 1 :=
  let main_v0 : FVec F S2048x1x20x2 .f32 := broadcastInDim S2048x1x20x2 ![0, 2, 3] bcast_S2048x20x2_S2048x1x20x2_0_2_3 main_arg0
  let main_v1 : FVec F S1x512x20x2 .f32 := broadcastInDim S1x512x20x2 ![1, 2, 3] bcast_S512x20x2_S1x512x20x2_1_2_3 main_arg1
  let main_v2 : FVec F S2048x512x20x2 .f32 := broadcastInDim S2048x512x20x2 ![0, 1, 2, 3] bcast_S2048x1x20x2_S2048x512x20x2_0_1_2_3 main_v0
  let main_v3 : FVec F S2048x512x20x2 .f32 := broadcastInDim S2048x512x20x2 ![0, 1, 2, 3] bcast_S1x512x20x2_S2048x512x20x2_0_1_2_3 main_v1
  let main_v4 : FVec F S2048x512x20x2 .f32 := subf main_v2 main_v3
  let main_v5 : FVec F S2048x512x20x2 .f32 := mulf main_v4 main_v4
  let main_cst : FVec F S_ .f32 := constant S_ .f32 0x00000000#32
  let main_v6 : FVec F S2048x512x20 .f32 := (fun x v => Host.reduceAdd x v reducesTo_S2048x512x20x2_S2048x512x20_d3 h_S_) main_v5 main_cst
  let main_v7 : FVec F S2048x512x20 .f32 := Host.sqrt main_v6
  let main_cst_0 : FVec F S_ .f32 := constant S_ .f32 0x00000000#32
  let main_v8 : FVec F S2048x512 .f32 := (fun x v => Host.reduceAdd x v reducesTo_S2048x512x20_S2048x512_d2 h_S_) main_v7 main_cst_0
  let main_cst_1 : FVec F S_ .f32 := constant S_ .f32 0x41A00000#32
  let main_v9 : FVec F S2048x512 .f32 := broadcastInDim S2048x512 ![] bcast_S_S2048x512 main_cst_1
  let main_v10 : FVec F S2048x512 .f32 := Host.divf main_v8 main_v9
  let main_cst_2 : FVec F S_ .f32 := constant S_ .f32 0x7F800000#32
  let main_v11 : FVec F S2048 .f32 := (fun x v => Host.reduce FloatOps.minimumf x v reducesTo_S2048x512_S2048_d1 h_S_) main_v10 main_cst_2
  let main_v12 : IVec S2048 32 := shapeCast S2048 main_arg4 shapeCasts_S2048x1_S2048
  let main_c : IVec S_ 32 := constantI S_ 32 0#32
  let main_v13 : IVec S2048 32 := broadcastInDim S2048 ![] bcast_S_S2048 main_c
  let main_v14 : IVec S2048 1 := cmpi .sge main_v12 main_v13
  let main_c_3 : IVec S_ 32 := constantI S_ 32 512#32
  let main_v15 : IVec S2048 32 := broadcastInDim S2048 ![] bcast_S_S2048 main_c_3
  let main_v16 : IVec S2048 1 := cmpi .slt main_v12 main_v15
  let main_v17 : IVec S2048 1 := andi main_v14 main_v16
  fn_part1 (F := F) main_arg0 main_arg1 main_arg2 main_arg3 main_v11 main_v12 main_v17
-- ==== Pre_finite.lean ====
abbrev S2048x20x2 : Shape := ⟨3, ![2048, 20, 2]⟩
abbrev S512x20x2 : Shape := ⟨3, ![512, 20, 2]⟩
abbrev S_ : Shape := ⟨0, ![]⟩

class Facts : Prop where
  bcast_S_S2048x20x2 : S_.BroadcastsInDim S2048x20x2 (![] : Fin 0 → Fin S2048x20x2.rank)
  reducesTo_S2048x20x2_S_d0_1_2 : S2048x20x2.ReducesTo [0, 1, 2] S_
  h_S_ : 0 < S_.numel
  bcast_S_S512x20x2 : S_.BroadcastsInDim S512x20x2 (![] : Fin 0 → Fin S512x20x2.rank)
  reducesTo_S512x20x2_S_d0_1_2 : S512x20x2.ReducesTo [0, 1, 2] S_

variable [Facts]

def fn {F : FTy → Type} [FloatOps F] (main_arg0 : FVec F S2048x20x2 .f32) (main_arg1 : FVec F S512x20x2 .f32) : IVec S_ 1 :=
  let main_v0 : FVec F S2048x20x2 .f32 := Host.absf main_arg0
  let main_cst : FVec F S_ .f32 := constant S_ .f32 0x7F800000#32
  let main_v1 : FVec F S2048x20x2 .f32 := broadcastInDim S2048x20x2 ![] bcast_S_S2048x20x2 main_cst
  let main_v2 : IVec S2048x20x2 1 := cmpf .olt main_v0 main_v1
  let main_c : IVec S_ 1 := constantI S_ 1 1#1
  let main_v3 : IVec S_ 1 := (fun x v => Host.reduce IntOp.andi x v reducesTo_S2048x20x2_S_d0_1_2 h_S_) main_v2 main_c
  let main_v4 : FVec F S512x20x2 .f32 := Host.absf main_arg1
  let main_cst_0 : FVec F S_ .f32 := constant S_ .f32 0x7F800000#32
  let main_v5 : FVec F S512x20x2 .f32 := broadcastInDim S512x20x2 ![] bcast_S_S512x20x2 main_cst_0
  let main_v6 : IVec S512x20x2 1 := cmpf .olt main_v4 main_v5
  let main_c_1 : IVec S_ 1 := constantI S_ 1 1#1
  let main_v7 : IVec S_ 1 := (fun x v => Host.reduce IntOp.andi x v reducesTo_S512x20x2_S_d0_1_2 h_S_) main_v6 main_c_1
  let main_v8 : IVec S_ 1 := andi main_v3 main_v7
  main_v8
-- ==== Kernel.lean ====
abbrev S2048x20x2 : Shape := ⟨3, ![2048, 20, 2]⟩
abbrev S512x20x2 : Shape := ⟨3, ![512, 20, 2]⟩
abbrev S2048x40 : Shape := ⟨2, ![2048, 40]⟩
abbrev S512x40 : Shape := ⟨2, ![512, 40]⟩
abbrev S40x512 : Shape := ⟨2, ![40, 512]⟩
abbrev S2048x1 : Shape := ⟨2, ![2048, 1]⟩
abbrev S512x1 : Shape := ⟨2, ![512, 1]⟩
abbrev S512x512 : Shape := ⟨2, ![512, 512]⟩
abbrev S1x512 : Shape := ⟨2, ![1, 512]⟩
abbrev S512 : Shape := ⟨1, ![512]⟩

abbrev nBuf : Space → Nat
  | .hbm => 8
  | .vmem => 10
  | .smem => 0
  | _ => 0

abbrev bufTy : (tb : Table) → Fin (tcTables nBuf tb) → BufTy
  | .hbm, ⟨0, _⟩ => ⟨S2048x20x2, .f32⟩
  | .hbm, ⟨1, _⟩ => ⟨S512x20x2, .f32⟩
  | .hbm, ⟨2, _⟩ => ⟨S2048x40, .f32⟩
  | .hbm, ⟨3, _⟩ => ⟨S512x40, .f32⟩
  | .hbm, ⟨4, _⟩ => ⟨S40x512, .f32⟩
  | .hbm, ⟨5, _⟩ => ⟨S2048x40, .f32⟩
  | .hbm, ⟨6, _⟩ => ⟨S2048x1, .f32⟩
  | .hbm, ⟨7, _⟩ => ⟨S2048x1, .i32⟩
  | .local _ .vmem, ⟨0, _⟩ => ⟨S512x40, .f32⟩
  | .local _ .vmem, ⟨1, _⟩ => ⟨S512x40, .f32⟩
  | .local _ .vmem, ⟨2, _⟩ => ⟨S40x512, .f32⟩
  | .local _ .vmem, ⟨3, _⟩ => ⟨S512x40, .f32⟩
  | .local _ .vmem, ⟨4, _⟩ => ⟨S512x40, .f32⟩
  | .local _ .vmem, ⟨5, _⟩ => ⟨S512x40, .f32⟩
  | .local _ .vmem, ⟨6, _⟩ => ⟨S512x1, .f32⟩
  | .local _ .vmem, ⟨7, _⟩ => ⟨S512x1, .f32⟩
  | .local _ .vmem, ⟨8, _⟩ => ⟨S512x1, .i32⟩
  | .local _ .vmem, ⟨9, _⟩ => ⟨S512x1, .i32⟩
  | _, _ => ⟨S2048x20x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_points" => some ((1 / 20 : ℝ) : EReal)
  | _ => none
-- ==== ReferenceIdeal.lean ====
abbrev S2048x20x2 : Shape := ⟨3, ![2048, 20, 2]⟩
abbrev S512x20x2 : Shape := ⟨3, ![512, 20, 2]⟩
abbrev S2048x1x20x2 : Shape := ⟨4, ![2048, 1, 20, 2]⟩
abbrev S1x512x20x2 : Shape := ⟨4, ![1, 512, 20, 2]⟩
abbrev S2048x512x20x2 : Shape := ⟨4, ![2048, 512, 20, 2]⟩
abbrev S_ : Shape := ⟨0, ![]⟩
abbrev S2048x512x20 : Shape := ⟨3, ![2048, 512, 20]⟩
abbrev S2048x512 : Shape := ⟨2, ![2048, 512]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S2048x40 : Shape := ⟨2, ![2048, 40]⟩

abbrev nBuf : Space → Nat
  | .hbm => 64
  | .vmem => 0
  | .smem => 0
  | _ => 0

abbrev bufTy : (tb : Table) → Fin (tcTables nBuf tb) → BufTy
  | .hbm, ⟨0, _⟩ => ⟨S2048x20x2, .f32⟩
  | .hbm, ⟨1, _⟩ => ⟨S512x20x2, .f32⟩
  | .hbm, ⟨2, _⟩ => ⟨S2048x1x20x2, .f32⟩
  | .hbm, ⟨3, _⟩ => ⟨S1x512x20x2, .f32⟩
  | .hbm, ⟨4, _⟩ => ⟨S2048x512x20x2, .f32⟩
  | .hbm, ⟨5, _⟩ => ⟨S2048x512x20x2, .f32⟩
  | .hbm, ⟨6, _⟩ => ⟨S2048x512x20x2, .f32⟩
  | .hbm, ⟨7, _⟩ => ⟨S2048x512x20x2, .f32⟩
  | .hbm, ⟨8, _⟩ => ⟨S_, .f32⟩
  | .hbm, ⟨9, _⟩ => ⟨S2048x512x20, .f32⟩
  | .hbm, ⟨10, _⟩ => ⟨S_, .f32⟩
  | .hbm, ⟨11, _⟩ => ⟨S2048x512x20, .f32⟩
  | .hbm, ⟨12, _⟩ => ⟨S2048x512x20, .f32⟩
  | .hbm, ⟨13, _⟩ => ⟨S2048x512x20, .f32⟩
  | .hbm, ⟨14, _⟩ => ⟨S_, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048, .f32⟩
  | .hbm, ⟨21, _⟩ => ⟨S2048x512, .i32⟩
  | .hbm, ⟨22, _⟩ => ⟨S_, .f32⟩
  | .hbm, ⟨23, _⟩ => ⟨S_, .i32⟩
  | .hbm, ⟨24, _⟩ => ⟨S2048, .f32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S1, .i32⟩
  | .hbm, ⟨35, _⟩ => ⟨S_, .i32⟩
  | .hbm, ⟨36, _⟩ => ⟨S2048x1, .i32⟩
  | .hbm, ⟨37, _⟩ => ⟨S2048x1, .i1⟩
  | .hbm, ⟨38, _⟩ => ⟨S1x1, .i32⟩
  | .hbm, ⟨39, _⟩ => ⟨S2048x1, .i32⟩
  | .hbm, ⟨40, _⟩ => ⟨S2048x1, .i1⟩
  | .hbm, ⟨41, _⟩ => ⟨S2048x1, .i1⟩
  | .hbm, ⟨42, _⟩ => ⟨S_, .i1⟩
  | .hbm, ⟨43, _⟩ => ⟨S2048, .i1⟩
  | .hbm, ⟨44, _⟩ => ⟨S2048x20x2, .f32⟩
  | .hbm, ⟨45, _⟩ => ⟨S2048x20x2, .i1⟩
  | .hbm, ⟨46, _⟩ => ⟨S_, .f32⟩
  | .hbm, ⟨47, _⟩ => ⟨S2048x20x2, .f32⟩
  | .hbm, ⟨48, _⟩ => ⟨S2048x20x2, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048x1, .f32⟩
  | .hbm, ⟨55, _⟩ => ⟨S_, .f32⟩
  | .hbm, ⟨56, _⟩ => ⟨S2048, .f32⟩
  | .hbm, ⟨57, _⟩ => ⟨S2048, .i1⟩
  | .hbm, ⟨58, _⟩ => ⟨S2048x1, .i1⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x40, .f32⟩
  | .hbm, ⟨63, _⟩ => ⟨S2048x1, .i32⟩
  | _, _ => ⟨S2048x20x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v14 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v15 : Ref sig .tc := ⟨.hbm, 48, rfl⟩
abbrev main_v16 : Ref sig .tc := ⟨.hbm, 49, rfl⟩
abbrev main_cst_4 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_5 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩

abbrev nD : Nat := 1
abbrev τ : Topo := Topo.v7x

variable {F : FTy → Type} [FloatOps F]
-- ==== Proof.KernelAcc.lean ====
/-
  What one block of the kernel holds before it looks for the least: at row `i` and column `k` the accumulator is the sum
  over the twenty points of `d * rsqrt d`, `d` the squared distance of the two points plus the guard.
-/
module

public import proofs.«01_k».proof.Defs
public import proofs.«01_k».proof.Proof.Gen.KernelIdeal.Frame
public import Idealize.ShloMosaic.Lib.Pointwise

@[expose] public section

set_option maxRecDepth 16384

noncomputable section

namespace Cert.KernelIdeal.BlockValue

open Idealize.ShloMosaic Cert.KernelIdeal Cert.KernelIdeal.Gen

/-- The guard under the root. -/
def guard : EReal := Ideal.ofBits .f32 0x1E3CE508#32

/-- The squared distance of the points `(a, b)` and `(a', b')`, guarded. -/
def sq (a a' b b' : EReal) : EReal := (a - a') * (a - a') + (b - b') * (b - b') + guard

/-- The distance as the kernel writes it. -/
def dist (a a' b b' : EReal) : EReal := sq a a' b b' * Ideal.rsqrt (sq a a' b b')

/-- The accumulator of one block, over the block of predictions and the block of targets. -/
def acc (x0 : Vec Ideal S512x40 .f32) (x1 : Vec Ideal S40x512 .f32) (x2 : Vec Ideal S512x40 .f32) : FVec Ideal S512x512 .f32 :=
  k0_pay21 (k0_pay26 x0 x1 x2) (k0_pay27 x0 x1 x2) (k0_pay28 x0 x1 x2) (k0_pay29 x0 x1 x2) (k0_pay30 x0 x1 x2) (k0_pay31 x0 x1 x2)

/-- The whole staging buffer is read as it is. -/
theorem ld0 (x : Vec Ideal S512x40 .f32) : View.ld x r0_0 = x :=
  View.ld_unit_zero (funext fun a => by fin_cases a <;> rfl) _ _
theorem ld1 (x : Vec Ideal S40x512 .f32) : View.ld x r0_1 = x :=
  View.ld_unit_zero (funext fun a => by fin_cases a <;> rfl) _ _

/-- The accumulator at a row and a column: the sum of the twenty distances. -/
theorem acc_apply (x0 : Vec Ideal S512x40 .f32) (x1 : Vec Ideal S40x512 .f32) (x2 : Vec Ideal S512x40 .f32) (i k : Fin 512) :
    acc x0 x1 x2 (ix2 i k) = ∑ p : Fin 20, dist (x0 (ix2 i ⟨2 * p.val, by omega⟩)) (x1 (ix2 ⟨2 * p.val, by omega⟩ k))
      (x0 (ix2 i ⟨2 * p.val + 1, by omega⟩)) (x1 (ix2 ⟨2 * p.val + 1, by omega⟩ k)) := by
  unfold acc k0_pay26 k0_pay27 k0_pay28 k0_pay29 k0_pay30 k0_pay31 k0_pay26 k0_pay27
  rw [ld0, ld1]
  unfold_payloads
  pointwise
  simp only [Fin.sum_univ_castSucc, Fin.sum_univ_zero, zero_add]
  rfl

end Cert.KernelIdeal.BlockValue

end
-- ==== Proof.FirstLeast.lean ====
/-
  The first least entry of a row of extended reals, and the three folds that find it: the fold of `min`, the fold of
  `min` over the places at which the row meets its least, and the fold of a (value, place) pair that keeps the smaller
  value and, of equal values, the smaller place.
-/
module

public import Idealize.ShloMosaic.Lib.Pointwise

@[expose] public section

noncomputable section

namespace Cert.FirstLeast

open Idealize.ShloMosaic

variable {n : ℕ}

/-- `k` is the first place at which the row `a` is least. -/
def First (a : Fin n → EReal) (k : Fin n) : Prop := (∀ j, a k ≤ a j) ∧ ∀ j, j < k → a k < a j

/-- Every row that is not empty has a first least place. -/
theorem exists_first (a : Fin (n + 1) → EReal) : ∃ k, First a k := by
  obtain ⟨k₀, -, h₀⟩ := Finset.exists_min_image Finset.univ a ⟨0, Finset.mem_univ _⟩
  obtain ⟨k, hk, hmin⟩ := Finset.exists_min_image (Finset.univ.filter fun k => ∀ j, a k ≤ a j) id
    ⟨k₀, by simpa using fun j => h₀ j (Finset.mem_univ _)⟩
  have hk' : ∀ j, a k ≤ a j := by simpa using hk
  refine ⟨k, hk', fun j hj => lt_of_le_of_ne (hk' j) fun h => ?_⟩
  exact absurd (hmin j (by simpa using fun i => h ▸ hk' i)) (not_le.mpr hj)

/-- A strictly increasing function of the entries keeps the first least place. -/
theorem First.map {a b : Fin n → EReal} {k : Fin n} (h : First a k) (hle : ∀ j, a k ≤ a j → b k ≤ b j)
    (hlt : ∀ j, a k < a j → b k < b j) : First b k :=
  ⟨fun j => hle j (h.1 j), fun j hj => hlt j (h.2 j hj)⟩

/-- The fold of `min` from the top is the entry at the first least place. -/
theorem fold_min {a : Fin n → EReal} {k : Fin n} (h : First a k) : Finset.univ.fold min ⊤ a = a k := by
  apply le_antisymm
  · exact (Finset.fold_min_le _).mpr (Or.inr ⟨k, Finset.mem_univ _, le_rfl⟩)
  · exact (Finset.le_fold_min _).mpr ⟨le_top, fun j _ => h.1 j⟩

/-! ### The least word -/

theorem minsi_eq (a b : BitVec 32) : IntOp.minsi a b = if a.toInt < b.toInt then a else b := by
  simp [IntOp.minsi, BitVec.slt]

/-- The fold of the signed minimum is one of the words folded, and none of them is below it. -/
theorem fold_minsi {ι : Type} [DecidableEq ι] (init : BitVec 32) (f : ι → BitVec 32) (s : Finset ι) :
    (s.fold IntOp.minsi init f = init ∨ ∃ k ∈ s, s.fold IntOp.minsi init f = f k)
      ∧ (s.fold IntOp.minsi init f).toInt ≤ init.toInt
      ∧ ∀ k ∈ s, (s.fold IntOp.minsi init f).toInt ≤ (f k).toInt := by
  induction s using Finset.induction_on with
  | empty => simp
  | insert i s hi ih =>
    rw [Finset.fold_insert hi, minsi_eq]
    obtain ⟨h1, h2, h3⟩ := ih
    split_ifs with hle
    · refine ⟨Or.inr ⟨i, Finset.mem_insert_self _ _, rfl⟩, hle.le.trans h2, fun k hk => ?_⟩
      rcases Finset.mem_insert.mp hk with rfl | hk
      · exact le_rfl
      · exact hle.le.trans (h3 k hk)
    · refine ⟨h1.imp_right fun ⟨k, hk, e⟩ => ⟨k, Finset.mem_insert_of_mem hk, e⟩, h2, fun k hk => ?_⟩
      rcases Finset.mem_insert.mp hk with rfl | hk
      · exact not_lt.mp hle
      · exact h3 k hk

/-- A word of a number below 512 reads as that number. -/
theorem toInt_ofNat {k : ℕ} (h : k ≤ 512) : (BitVec.ofNat 32 k).toInt = k := by
  rw [BitVec.toInt_eq_toNat_cond, BitVec.toNat_ofNat, Nat.mod_eq_of_lt (by omega), if_pos (by omega)]

/-- The least of the places at which the row meets its least, every other place read as 512: the first least place. -/
theorem fold_places {a : Fin 512 → EReal} {k : Fin 512} (h : First a k) :
    Finset.univ.fold IntOp.minsi 2147483647#32 (fun x => if a x = a k then BitVec.ofNat 32 x.val else 512#32)
      = BitVec.ofNat 32 k.val := by
  obtain ⟨h1, -, h3⟩ := fold_minsi 2147483647#32 (fun x : Fin 512 => if a x = a k then BitVec.ofNat 32 x.val else 512#32) Finset.univ
  have hk := h3 k (Finset.mem_univ _)
  generalize (Finset.univ : Finset (Fin 512)).fold IntOp.minsi 2147483647#32 _ = w at *
  have hkk := toInt_ofNat (k := k.val) (by omega)
  have hlt := k.isLt
  simp only [if_true, hkk] at hk
  rcases h1 with rfl | ⟨j, -, rfl⟩
  · exact absurd hk (by have : (2147483647#32 : BitVec 32).toInt = 2147483647 := by decide
                        omega)
  · by_cases he : a j = a k
    · simp only [he, if_true] at hk ⊢
      rw [toInt_ofNat (by omega)] at hk
      rcases lt_or_eq_of_le (show j.val ≤ k.val by omega) with hl | hl
      · exact absurd he (h.2 j hl).ne'
      · rw [hl]
    · simp only [he, if_false] at hk
      have : (512#32 : BitVec 32).toInt = 512 := by decide
      omega

/-! ### The least pair -/

/-- The order of the pairs: by value, then by place. -/
def LePair (p q : EReal × BitVec 32) : Prop := p.1 < q.1 ∨ (p.1 = q.1 ∧ p.2.toInt ≤ q.2.toInt)

theorem LePair.refl (p : EReal × BitVec 32) : LePair p p := Or.inr ⟨rfl, le_rfl⟩

theorem LePair.trans {p q r : EReal × BitVec 32} (h : LePair p q) (h' : LePair q r) : LePair p r := by
  rcases h with h | ⟨h, hi⟩ <;> rcases h' with h' | ⟨h', hi'⟩
  · exact Or.inl (h.trans h')
  · exact Or.inl (h'.symm ▸ h)
  · exact Or.inl (h.symm ▸ h')
  · exact Or.inr ⟨h.trans h', hi.trans hi'⟩

/-- A fold whose step returns one of its two pairs, below both, ends at one of the pairs folded, below them all. -/
theorem foldl_least (f : EReal × BitVec 32 → EReal × BitVec 32 → EReal × BitVec 32)
    (hf : ∀ p q, (f p q = p ∨ f p q = q) ∧ LePair (f p q) p ∧ LePair (f p q) q)
    (L : List (EReal × BitVec 32)) (p : EReal × BitVec 32) :
    (L.foldl f p = p ∨ L.foldl f p ∈ L) ∧ LePair (L.foldl f p) p ∧ ∀ q ∈ L, LePair (L.foldl f p) q := by
  induction L generalizing p with
  | nil => exact ⟨Or.inl rfl, LePair.refl _, fun _ h => absurd h List.not_mem_nil⟩
  | cons q L ih =>
    rw [List.foldl_cons]
    obtain ⟨h1, h2, h3⟩ := ih (f p q)
    obtain ⟨e, hp, hq⟩ := hf p q
    refine ⟨?_, h2.trans hp, fun r hr => ?_⟩
    · rcases h1 with h1 | h1
      · rcases e with e | e
        · exact Or.inl (h1.trans e)
        · exact Or.inr (by rw [h1, e]; exact List.mem_cons_self)
      · exact Or.inr (List.mem_cons_of_mem _ h1)
    · rcases List.mem_cons.mp hr with rfl | hr
      · exact h2.trans hq
      · exact h3 r hr

end Cert.FirstLeast

end
-- ==== Proof.KernelRow.lean ====
/-
  What one block of the kernel writes, once the first least column of each row of its accumulator is known: the row of
  targets at that column, the confidence of the least, the column itself.
-/
module

public import proofs.«01_k».proof.Proof.KernelAcc
public import proofs.«01_k».proof.Proof.FirstLeast

@[expose] public section

set_option maxRecDepth 16384

noncomputable section

namespace Cert.KernelIdeal.BlockValue

open Idealize.ShloMosaic Cert.KernelIdeal Cert.KernelIdeal.Gen Cert.FirstLeast

/-- Row `i` of the accumulator. -/
def row (x0 : Vec Ideal S512x40 .f32) (x1 : Vec Ideal S40x512 .f32) (x2 : Vec Ideal S512x40 .f32) (i : Fin 512) : Fin 512 → EReal :=
  fun k => acc x0 x1 x2 (ix2 i k)

/-- The confidence of a mean distance: `exp (-d)`, nothing past two. -/
def conf (d : EReal) : EReal := if Ideal.ofBits .f32 0x40000000#32 < d then 0 else Ideal.exp (0 - d)

/-- The fold of `min` starts from the top. -/
theorem inf_eq : Ideal.ofBits FTy.f32 2139095040#32 = ⊤ := by
  simp [Ideal.ofBits, Ideal.ieee]

/-- The named constant is one twentieth. -/
theorem inv_points : Named.named (F := Ideal) (φ := .f32) κ "inv_points" 1028443341#32 = ((1 / 20 : ℝ) : EReal) := rfl

section
variable {x0 : Vec Ideal S512x40 .f32} {x1 : Vec Ideal S40x512 .f32} {x2 : Vec Ideal S512x40 .f32} {i k : Fin 512}

/-- The fold of `min` over a row is its entry at the first least column. -/
theorem row_min (h : First (row x0 x1 x2 i) k) :
    Finset.fold min (Ideal.ofBits FTy.f32 2139095040#32) (fun x => acc x0 x1 x2 (ix2 i x)) Finset.univ = row x0 x1 x2 i k := by
  rw [inf_eq]
  exact fold_min h

/-- The second result: the confidence of the least mean distance. -/
theorem out0_4_apply (h : First (row x0 x1 x2 i) k) :
    out0_4 x0 x1 x2 (ix2 i 0) = conf (row x0 x1 x2 i k * ((1 / 20 : ℝ) : EReal)) := by
  unfold out0_4
  rw [View.canon_unit_zero (funext fun a => by fin_cases a <;> rfl)]
  unfold k0_pay1 k0_pay25 k0_pay22
  change _ = _
  rw [← acc]
  pointwise
  rw [row_min h, inv_points]
  rfl

/-- The column as the kernel finds it: the least of the columns that meet the least of the row. -/
theorem pay23_apply (h : First (row x0 x1 x2 i) k) :
    k0_pay23 (k0_pay26 x0 x1 x2) (k0_pay27 x0 x1 x2) (k0_pay28 x0 x1 x2) (k0_pay29 x0 x1 x2) (k0_pay30 x0 x1 x2) (k0_pay31 x0 x1 x2) (ix2 i 0)
      = BitVec.ofNat 32 k.val := by
  unfold k0_pay23 k0_pay22
  rw [← acc]
  pointwise
  rw [row_min h]
  exact fold_places h

/-- The third result: the first least column. -/
theorem out0_5_apply (h : First (row x0 x1 x2 i) k) : out0_5 x0 x1 x2 (ix2 i 0) = BitVec.ofNat 32 k.val := by
  unfold out0_5
  rw [View.canon_unit_zero (funext fun a => by fin_cases a <;> rfl)]
  exact pay23_apply h

/-- The product with a row that is one at a single column picks that column. -/
theorem sum_pick (f : Fin 512 → EReal) (k : Fin 512) :
    (∑ x : Fin 512, FloatOps.sitofp (F := Ideal) FTy.f32 (BitVec.setWidth 32 (IntOp.cmpi .eq (BitVec.ofNat 32 x.val) (BitVec.ofNat 32 k.val))) * f x)
      = f k := by
  rw [Finset.sum_eq_single k]
  · have : IntOp.cmpi .eq (BitVec.ofNat 32 k.val) (BitVec.ofNat 32 k.val) = 1#1 := by simp [IntOp.cmpi]
    rw [this]
    have : FloatOps.sitofp (F := Ideal) FTy.f32 (BitVec.setWidth 32 1#1) = (1 : EReal) := by
      simp [FloatOps.sitofp]
    rw [this, one_mul]
  · intro x _ hx
    have hne : (BitVec.ofNat 32 x.val == BitVec.ofNat 32 k.val) = false := by
      rw [beq_eq_false_iff_ne]
      intro e
      have := congrArg BitVec.toInt e
      rw [toInt_ofNat (by omega), toInt_ofNat (by omega)] at this
      exact hx (Fin.ext (by omega))
    have : IntOp.cmpi .eq (BitVec.ofNat 32 x.val) (BitVec.ofNat 32 k.val) = 0#1 := by simp [IntOp.cmpi, hne]
    rw [this]
    have : FloatOps.sitofp (F := Ideal) FTy.f32 (BitVec.setWidth 32 0#1) = (0 : EReal) := by
      simp [FloatOps.sitofp]
    rw [this, zero_mul]
  · exact fun h => absurd (Finset.mem_univ _) h

/-- The first result: the row of the targets at the first least column. -/
theorem out0_3_apply (h : First (row x0 x1 x2 i) k) (j : Fin 40) : out0_3 x0 x1 x2 (ix2 i j) = x2 (ix2 k j) := by
  unfold out0_3
  rw [View.canon_unit_zero (funext fun a => by fin_cases a <;> rfl)]
  unfold k0_pay24
  rw [ld0]
  pointwise
  rw [pay23_apply h]
  exact sum_pick (fun x => x2 (ix2 x j)) k

end

end Cert.KernelIdeal.BlockValue

end
-- ==== Proof.KernelBlocks.lean ====
/-
  What the three blocks that a grid point reads hold, over the two arguments: the flattened predictions of its 512 rows,
  the flattened targets turned, and the flattened targets.
-/
module

public import proofs.«01_k».proof.Defs
public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.KernelIdeal.BlockValue

open Idealize.ShloMosaic Cert.KernelIdeal Cert.KernelIdeal.Gen

variable (m : (ℓ : Loc nD τ sig) → Buf (Elt Ideal) ℓ) (c : Dev nD)

/-- The predictions and the targets, the two arguments. -/
abbrev pred : FVec Ideal S2048x20x2 .f32 := m ((c.tc : Thread nD τ).loc main_arg0)
abbrev gt : FVec Ideal S512x20x2 .f32 := m ((c.tc : Thread nD τ).loc main_arg1)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel

theorem four (t : Fin cfg0.N) : t.val < 4 := t.isLt

/-- Row `i` of the block of grid point `t` is row `512 t + i` of the array. -/
def rowOf (t : Fin cfg0.N) (i : Fin 512) : Fin 2048 := ⟨t.val * 512 + i.val, by have := four t; omega⟩

/-- The block of predictions. -/
theorem iblk0_apply (t : Fin cfg0.N) (i : Fin 512) (p : Fin 20) (e : Fin 2) :
    iblk m c 0 t (ix2 i (⟨2 * p.val + e.val, by omega⟩ : Fin 40)) = pred m c (ix3 (rowOf t i) p e) := by
  blk_simp [iblk, idx0 t]
  entry_read
  pointwise
  blk_ext [idx0 t, rowOf]

/-- The block of turned targets. -/
theorem iblk1_apply (t : Fin cfg0.N) (k : Fin 512) (p : Fin 20) (e : Fin 2) :
    iblk m c 1 t (ix2 (⟨2 * p.val + e.val, by omega⟩ : Fin 40) k) = gt m c (ix3 k p e) := by
  blk_simp [iblk, idx1 t]
  entry_read
  simp -implicitDefEqProofs only [StableHlo.TRef.toBuf, StableHlo.TRef.ofBuf, cast_cast, cast_eq]
  pointwise
  blk_ext [idx1 t]

/-- The block of targets. -/
theorem iblk2_apply (t : Fin cfg0.N) (k : Fin 512) (j : Fin 40) :
    iblk m c 2 t (ix2 k j) = gt m c (ix3 k (⟨j.val / 2, by omega⟩ : Fin 20) (⟨j.val % 2, by omega⟩ : Fin 2)) := by
  blk_simp [iblk, idx2 t]
  entry_read
  pointwise
  blk_ext [idx2 t]

end Cert.KernelIdeal.BlockValue

end
-- ==== Proof.KernelValue.lean ====
/-
  What the three result arrays of the kernel hold after its run, over the two arguments: for each predicted polyline the
  target nearest to it, the confidence of its mean distance, the place of that target.
-/
module

public import proofs.«01_k».proof.Proof.KernelRow
public import proofs.«01_k».proof.Proof.KernelBlocks
public import proofs.«01_k».proof.Proof.Gen.KernelIdeal.Value

@[expose] public section

set_option maxRecDepth 16384

noncomputable section

namespace Cert.KernelIdeal.BlockValue

open Idealize.ShloMosaic Idealize.SL.Sem Cert.KernelIdeal Cert.KernelIdeal.Gen Cert.FirstLeast

/-- The sum of the twenty distances of predicted polyline `n` to target `k`, as the kernel writes each distance. -/
def distSum (x : FVec Ideal S2048x20x2 .f32) (y : FVec Ideal S512x20x2 .f32) (n : Fin 2048) (k : Fin 512) : EReal :=
  ∑ p : Fin 20, dist (x (ix3 n p 0)) (y (ix3 k p 0)) (x (ix3 n p 1)) (y (ix3 k p 1))

/-- The first target at the least distance of predicted polyline `n`. -/
def nearest (x : FVec Ideal S2048x20x2 .f32) (y : FVec Ideal S512x20x2 .f32) (n : Fin 2048) : Fin 512 :=
  Classical.choose (exists_first (distSum x y n))

theorem nearest_first (x : FVec Ideal S2048x20x2 .f32) (y : FVec Ideal S512x20x2 .f32) (n : Fin 2048) :
    First (distSum x y n) (nearest x y n) := Classical.choose_spec (exists_first (distSum x y n))

/-- The first result. -/
def matched (x : FVec Ideal S2048x20x2 .f32) (y : FVec Ideal S512x20x2 .f32) : FVec Ideal S2048x40 .f32 := fun j =>
  y (ix3 (nearest x y (j 0)) (⟨(j 1).val / 2, by have := (j 1).isLt; change _ < 40 at this; omega⟩ : Fin 20) (⟨(j 1).val % 2, by omega⟩ : Fin 2))

/-- The second result. -/
def confidence (x : FVec Ideal S2048x20x2 .f32) (y : FVec Ideal S512x20x2 .f32) : FVec Ideal S2048x1 .f32 := fun j =>
  conf (distSum x y (j 0) (nearest x y (j 0)) * ((1 / 20 : ℝ) : EReal))

/-- The third result. -/
def places (x : FVec Ideal S2048x20x2 .f32) (y : FVec Ideal S512x20x2 .f32) : IVec S2048x1 32 := fun j =>
  BitVec.ofNat 32 (nearest x y (j 0)).val

variable (m : (ℓ : Loc nD τ sig) → Buf (Elt Ideal) ℓ) (c : Dev nD)

/-- Row `i` of the accumulator at grid point `t` is row `512 t + i` of the sums of distances. -/
theorem row_eq (t : Fin cfg0.N) (i : Fin 512) :
    row (iblk m c 0 t) (iblk m c 1 t) (iblk m c 2 t) i = distSum (pred m c) (gt m c) (rowOf t i) := by
  funext k
  unfold row distSum
  rw [acc_apply]
  refine Finset.sum_congr rfl fun p _ => ?_
  rw [← iblk0_apply m c t i p 0, ← iblk0_apply m c t i p 1, ← iblk1_apply m c t k p 0, ← iblk1_apply m c t k p 1]
  rfl

theorem row_first (t : Fin cfg0.N) (i : Fin 512) :
    First (row (iblk m c 0 t) (iblk m c 1 t) (iblk m c 2 t) i) (nearest (pred m c) (gt m c) (rowOf t i)) := by
  rw [row_eq]
  exact nearest_first _ _ _

/-- The first result array: the nearest targets, flat. -/
theorem arr3 : (dats m 0 c).arrAt 3 cfg0.N = matched (pred m c) (gt m c) := by
  refine (dats m 0 c).arrAt_eq_of_covers 3 _ (by decide +kernel) fun t hf y => ?_
  blk_simp
  rw [after0_3]
  idx_vars y
  have e : ((cfg0.win 3).blk t).view.emb (ix2 y0 y1) = ix2 (rowOf t y0) y1 := by blk_ext [idx3 t, rowOf]
  refine Eq.trans ?_ (congrArg (matched (pred m c) (gt m c)) e.symm)
  rw [out0_3_apply (row_first m c t y0), iblk2_apply]
  rfl

/-- The second result array: the confidences. -/
theorem arr4 : (dats m 0 c).arrAt 4 cfg0.N = confidence (pred m c) (gt m c) := by
  refine (dats m 0 c).arrAt_eq_of_covers 4 _ (by decide +kernel) fun t hf y => ?_
  blk_simp
  rw [after0_4]
  idx_vars y
  have e : ((cfg0.win 4).blk t).view.emb (ix2 y0 y1) = ix2 (rowOf t y0) y1 := by blk_ext [idx4 t, rowOf]
  refine Eq.trans ?_ (congrArg (confidence (pred m c) (gt m c)) e.symm)
  obtain rfl := Subsingleton.elim y1 0
  rw [out0_4_apply (row_first m c t y0), row_eq]
  rfl

/-- The third result array: the places. -/
theorem arr5 : (dats m 0 c).arrAt 5 cfg0.N = places (pred m c) (gt m c) := by
  refine (dats m 0 c).arrAt_eq_of_covers 5 _ (by decide +kernel) fun t hf y => ?_
  blk_simp
  rw [after0_5]
  idx_vars y
  have e : ((cfg0.win 5).blk t).view.emb (ix2 y0 y1) = ix2 (rowOf t y0) y1 := by blk_ext [idx5 t, rowOf]
  refine Eq.trans ?_ (congrArg (places (pred m c) (gt m c)) e.symm)
  obtain rfl := Subsingleton.elim y1 0
  rw [out0_5_apply (row_first m c t y0)]
  rfl

end Cert.KernelIdeal.BlockValue

end
-- ==== Proof.RefRun.lean ====
/-
  The run of the reference program: what its three result arrays hold after @main, as terms over its two arguments, and
  that the arguments end unchanged.
-/
module

public import proofs.«01_k».proof.Defs
public import proofs.«01_k».proof.Proof.Gen.ReferenceIdeal
public import Idealize.ShloMosaic.Lib.Claim
public import Idealize.ShloMosaic.Lib.StableHlo.RunRead

@[expose] public section

set_option maxRecDepth 16384

noncomputable section

namespace Cert.ReferenceIdeal.RefValue

open Idealize.ShloMosaic Idealize.ShloMosaic.StableHlo Idealize.SL.Sem
open Cert.ReferenceIdeal Cert.ReferenceIdeal.Gen

/-- The difference of every predicted point to every given one, coordinate by coordinate. -/
def diff (x : FVec Ideal S2048x20x2 .f32) (y : FVec Ideal S512x20x2 .f32) : FVec Ideal S2048x512x20x2 .f32 :=
  subf
    (broadcastInDim S2048x512x20x2 ![0, 1, 2, 3] bcast_S2048x1x20x2_S2048x512x20x2_0_1_2_3
      (broadcastInDim S2048x1x20x2 ![0, 2, 3] bcast_S2048x20x2_S2048x1x20x2_0_2_3 x))
    (broadcastInDim S2048x512x20x2 ![0, 1, 2, 3] bcast_S1x512x20x2_S2048x512x20x2_0_1_2_3
      (broadcastInDim S1x512x20x2 ![1, 2, 3] bcast_S512x20x2_S1x512x20x2_1_2_3 y))

/-- The mean distance of every predicted polyline to every given one. -/
def mean (x : FVec Ideal S2048x20x2 .f32) (y : FVec Ideal S512x20x2 .f32) : FVec Ideal S2048x512 .f32 :=
  Host.divf
    (Host.reduceAdd
      (Host.sqrt
        (addf
          (Host.reduceAdd (mulf (diff x y) (diff x y)) (constant S_ .f32 0x00000000#32)
            reducesTo_S2048x512x20x2_S2048x512x20_d3 h_S_)
          (broadcastInDim S2048x512x20 ![] bcast_S_S2048x512x20 (constant S_ .f32 0x1E3CE508#32))))
      (constant S_ .f32 0x00000000#32) reducesTo_S2048x512x20_S2048x512_d2 h_S_)
    (broadcastInDim S2048x512 ![] bcast_S_S2048x512 (constant S_ .f32 0x41A00000#32))

/-- The least of each row. -/
def least (d : FVec Ideal S2048x512 .f32) : FVec Ideal S2048 .f32 :=
  Host.reduce FloatOps.minimumf d (constant S_ .f32 0x7F800000#32) reducesTo_S2048x512_S2048_d1 h_S_

/-- The place of the least of each row. -/
def place (d : FVec Ideal S2048x512 .f32) : IVec S2048 32 := fun j =>
  (Host.argReduce reducer_argmin_f32_i32 d (iotaInDim S2048x512 32 1) (constant S_ .f32 0x7F800000#32)
    (constantI S_ 32 0#32) reducesTo_S2048x512_S2048_d1 h_S_ j).2

/-- The index words that the lookup reads: a negative index counts from the end. -/
def wrapped (i : IVec S2048 32) : IVec S2048x1 32 :=
  broadcastInDim S2048x1 ![0] bcast_S2048_S2048x1_0
    (select (cmpi .slt i (broadcastInDim S2048 ![] bcast_S_S2048 (constantI S_ 32 0#32)))
      (addi i (broadcastInDim S2048 ![] bcast_S_S2048 (constantI S_ 32 512#32))) i)

/-- Whether an index word is inside the table. -/
def inside (w : IVec S2048x1 32) : IVec S2048 1 :=
  Host.reduce IntOp.andi
    (andi (cmpi .sge w (broadcastInDim S2048x1 ![] bcast_S_S2048x1 (constantI S_ 32 0#32)))
      (cmpi .sle w (broadcastInDim S2048x1 ![0, 1] bcast_S1x1_S2048x1_0_1
        (broadcastInDim S1x1 ![1] bcast_S1_S1x1_1 (constantI S1 32 511#32)))))
    (constantI S_ 1 1#1) reducesTo_S2048x1_S2048_d1 h_S_

/-- The lookup: the rows of `y` at the index words, and the fill value where a word is outside the table. -/
def taken (y : FVec Ideal S512x20x2 .f32) (w : IVec S2048x1 32) : FVec Ideal S2048x20x2 .f32 :=
  select (broadcastInDim S2048x20x2 ![0] bcast_S2048_S2048x20x2_0 (inside w))
    (Host.gather gather_S512x20x2_S2048x1_S2048x20x2_12_0_n_n_0_1_1202 y w)
    (broadcastInDim S2048x20x2 ![] bcast_S_S2048x20x2 (constant S_ .f32 0x7FC00000#32))

/-- The confidence of a least distance: `exp (-d / 1)`, and zero above the threshold. -/
def confidence (d : FVec Ideal S2048 .f32) : FVec Ideal S2048x1 .f32 :=
  select (broadcastInDim S2048x1 ![0] bcast_S2048_S2048x1_0
      (cmpf .ogt d (broadcastInDim S2048 ![] bcast_S_S2048 (constant S_ .f32 0x40000000#32))))
    (broadcastInDim S2048x1 ![] bcast_S_S2048x1 (constant S_ .f32 0x00000000#32))
    (broadcastInDim S2048x1 ![0] bcast_S2048_S2048x1_0
      (Host.exp (Host.divf (Host.negf d) (broadcastInDim S2048 ![] bcast_S_S2048 (constant S_ .f32 0x3F800000#32)))))

/-- The first result: the given polyline matched to each predicted one, flat. -/
def matched (x : FVec Ideal S2048x20x2 .f32) (y : FVec Ideal S512x20x2 .f32) : FVec Ideal S2048x40 .f32 :=
  shapeCast S2048x40 (taken y (wrapped (place (mean x y)))) shapeCasts_S2048x20x2_S2048x40

/-- The third result: the matched places as a column. -/
def places (x : FVec Ideal S2048x20x2 .f32) (y : FVec Ideal S512x20x2 .f32) : IVec S2048x1 32 :=
  broadcastInDim S2048x1 ![0] bcast_S2048_S2048x1_0 (place (mean x y))

/-- The run of the reference: the three results over the arguments, the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v26)
          = matched (m ((c.tc : Thread nD τ).loc main_arg0)) (m ((c.tc : Thread nD τ).loc main_arg1))
      ∧ r.2.mem ((c.tc : Thread nD τ).loc main_v25)
          = confidence (least (mean (m ((c.tc : Thread nD τ).loc main_arg0)) (m ((c.tc : Thread nD τ).loc main_arg1))))
      ∧ r.2.mem ((c.tc : Thread nD τ).loc main_v27)
          = places (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine θ_run_mono (StableHlo.run_hlo _ _ (by hlo_seq) (by decide) (by decide) (by simp)
      (by intro _ h; (repeat (cases h with | head => rfl | tail _ h => ?_)); exact nomatch h) _ _) ?_
  intro r h c
  refine ⟨?_, ?_, ?_, ?_, ?_⟩
  · rw [h c]
    after_reads_simp
    try simp -implicitDefEqProofs only [TRef.toBuf, TRef.ofBuf, cast_cast, cast_eq]
    rfl
  · rw [h c]
    after_reads_simp
    try simp -implicitDefEqProofs only [TRef.toBuf, TRef.ofBuf, cast_cast, cast_eq]
    rfl
  · rw [h c]
    after_reads_simp
    try simp -implicitDefEqProofs only [TRef.toBuf, TRef.ofBuf, cast_cast, cast_eq]
    rfl
  · rw [h c]
    after_reads_simp
  · rw [h c]
    after_reads_simp

end Cert.ReferenceIdeal.RefValue

end
-- ==== Proof.RefMean.lean ====
/-
  The reference at an index: the mean distance of a predicted polyline to a target, the least of a row, the confidence.
-/
module

public import proofs.«01_k».proof.Proof.RefRun
public import proofs.«01_k».proof.Proof.FirstLeast
public import Idealize.ShloMosaic.Lib.Pointwise

@[expose] public section

set_option maxRecDepth 16384

noncomputable section

namespace Cert.ReferenceIdeal.RefValue

open Idealize.ShloMosaic Cert.ReferenceIdeal Cert.ReferenceIdeal.Gen Cert.FirstLeast

/-- The mean distance: the sum of the twenty guarded distances, divided by twenty. -/
theorem mean_apply (x : FVec Ideal S2048x20x2 .f32) (y : FVec Ideal S512x20x2 .f32) (n : Fin 2048) (k : Fin 512) :
    mean x y (ix2 n k) = Ideal.div
      (∑ p : Fin 20, Ideal.sqrt ((x (ix3 n p 0) - y (ix3 k p 0)) * (x (ix3 n p 0) - y (ix3 k p 0))
        + (x (ix3 n p 1) - y (ix3 k p 1)) * (x (ix3 n p 1) - y (ix3 k p 1)) + Ideal.ofBits .f32 0x1E3CE508#32))
      (Ideal.ofBits .f32 0x41A00000#32) := by
  unfold mean diff
  pointwise
  simp only [Fin.sum_univ_two]

/-- The least of a row is its entry at the first least place. -/
theorem least_apply (d : FVec Ideal S2048x512 .f32) (n : Fin 2048) (k : Fin 512) (h : First (fun k => d (ix2 n k)) k) :
    least d (ix1 n) = d (ix2 n k) := by
  unfold least
  pointwise
  have : Ideal.ofBits FTy.f32 2139095040#32 = ⊤ := by simp [Ideal.ofBits, Ideal.ieee]
  rw [this]
  exact fold_min h

/-- The confidence of a least distance: `exp (-d)`, and nothing past two. -/
theorem confidence_apply (d : FVec Ideal S2048 .f32) (n : Fin 2048) :
    confidence d (ix2 n 0) = if Ideal.ofBits .f32 0x40000000#32 < d (ix1 n) then 0 else Ideal.exp (Ideal.div (-d (ix1 n)) 1) := by
  unfold confidence
  pointwise

/-- Twenty, read off its word. -/
theorem twenty : Ideal.ofBits .f32 0x41A00000#32 = ((20 : ℝ) : EReal) := by
  simp [Ideal.ofBits, Ideal.ieee, -EReal.coe_mul]
  norm_num

end Cert.ReferenceIdeal.RefValue

end
-- ==== Proof.RefPlace.lean ====
/-
  The place of the least of a row in the reference: the fold of the pairs (value, place) in the row's order ends at the
  first least place, provided the least is below the top.
-/
module

public import proofs.«01_k».proof.Proof.RefRun
public import proofs.«01_k».proof.Proof.FirstLeast
public import Idealize.ShloMosaic.Lib.Pointwise

@[expose] public section

set_option maxRecDepth 16384

noncomputable section

namespace Cert.ReferenceIdeal.RefValue

open Idealize.ShloMosaic Cert.ReferenceIdeal Cert.ReferenceIdeal.Gen Cert.FirstLeast

/-- The step of the fold: the pair with the smaller value, of equal values the one with the smaller place. -/
theorem step_eq (p q : EReal × BitVec 32) :
    reducer_argmin_f32_i32 (F := Ideal) p q
      = if p.1 < q.1 then p else if p.1 = q.1 ∧ p.2.toInt < q.2.toInt then p else q := by
  obtain ⟨a, i⟩ := p
  obtain ⟨b, j⟩ := q
  rcases lt_trichotomy a b with h | h | h
  · simp [reducer_argmin_f32_i32, Ideal.cmpf_def, Ideal.cmp, IntOp.cmpi, IntOp.ori, IntOp.andi, Scalar.select, h, h.ne]
  · subst h
    by_cases hij : i.toInt < j.toInt
    · simp [reducer_argmin_f32_i32, Ideal.cmpf_def, Ideal.cmp, IntOp.cmpi, IntOp.ori, IntOp.andi, Scalar.select, BitVec.slt, hij]
    · simp [reducer_argmin_f32_i32, Ideal.cmpf_def, Ideal.cmp, IntOp.cmpi, IntOp.ori, IntOp.andi, Scalar.select, BitVec.slt, hij]
  · simp [reducer_argmin_f32_i32, Ideal.cmpf_def, Ideal.cmp, IntOp.cmpi, IntOp.ori, IntOp.andi, Scalar.select, h.not_gt, h.ne']

/-- The step returns one of its two pairs, below both. -/
theorem step_least (p q : EReal × BitVec 32) :
    (reducer_argmin_f32_i32 (F := Ideal) p q = p ∨ reducer_argmin_f32_i32 (F := Ideal) p q = q)
      ∧ LePair (reducer_argmin_f32_i32 (F := Ideal) p q) p ∧ LePair (reducer_argmin_f32_i32 (F := Ideal) p q) q := by
  rw [step_eq]
  split_ifs with h h'
  · exact ⟨Or.inl rfl, LePair.refl p, Or.inl h⟩
  · exact ⟨Or.inl rfl, LePair.refl p, Or.inr ⟨h'.1, h'.2.le⟩⟩
  · refine ⟨Or.inr rfl, ?_, LePair.refl q⟩
    rcases lt_or_eq_of_le (not_lt.mp h) with hl | he
    · exact Or.inl hl
    · exact Or.inr ⟨he, not_lt.mp fun hlt => h' ⟨he.symm, hlt⟩⟩

/-- The entries of row `n`, with their places. -/
theorem mem_fiber (d : FVec Ideal S2048x512 .f32) (n : Fin 2048) (q : EReal × BitVec 32) :
    q ∈ Host.argReduceFiber d (iotaInDim S2048x512 32 1) reducesTo_S2048x512_S2048_d1 (ix1 n)
      ↔ ∃ k : Fin 512, q = (d (ix2 n k), BitVec.ofNat 32 k.val) := by
  have hdrop : ∀ i : S2048x512.Idx, reducesTo_S2048x512_S2048_d1.drop i = ix1 (i 0) := fun i => by
    funext a
    match a with
    | ⟨0, _⟩ => rfl
  unfold Host.argReduceFiber
  simp only [List.mem_map, List.mem_filter, List.mem_finRange, true_and, decide_eq_true_eq, hdrop]
  constructor
  · rintro ⟨t, ht, rfl⟩
    generalize S2048x512.rowMajor.symm t = i at ht ⊢
    have h0 : i 0 = n := congrFun ht 0
    refine ⟨i 1, ?_⟩
    have : i = ix2 n (i 1) := by
      funext a
      match a with
      | ⟨0, _⟩ => exact h0
      | ⟨1, _⟩ => rfl
    exact Prod.ext (congrArg d this) rfl
  · rintro ⟨k, rfl⟩
    refine ⟨S2048x512.rowMajor (ix2 n k), ?_, ?_⟩
    · rw [Equiv.symm_apply_apply]
      rfl
    · rw [Equiv.symm_apply_apply]
      rfl

/-- The place as the fold over the row's entries, taken in their order. -/
theorem place_eq (d : FVec Ideal S2048x512 .f32) : place d = fun j => (List.foldl (reducer_argmin_f32_i32 (F := Ideal))
    (constant (F := Ideal) S_ .f32 0x7F800000#32 (Shape.Idx.first h_S_), constantI S_ 32 0#32 (Shape.Idx.first h_S_))
    (Host.argReduceFiber d (iotaInDim S2048x512 32 1) reducesTo_S2048x512_S2048_d1 j)).2 := by
  have e : place d = fun j => (Host.argReduce reducer_argmin_f32_i32 d (iotaInDim S2048x512 32 1)
      (constant S_ .f32 0x7F800000#32) (constantI S_ 32 0#32) reducesTo_S2048x512_S2048_d1 h_S_ j).2 := rfl
  rw [e, Ideal.argReduce_eq_reduce2]
  funext j
  exact congrArg Prod.snd (Host.reduce2_eq_foldl_fiber _ _ _ _ _ _ _ _)

/-- The place of the least of row `n`. -/
theorem place_apply (d : FVec Ideal S2048x512 .f32) (n : Fin 2048) (k : Fin 512) (h : First (fun k => d (ix2 n k)) k)
    (htop : d (ix2 n k) < ⊤) : place d (ix1 n) = BitVec.ofNat 32 k.val := by
  refine (congrFun (place_eq d) (ix1 n)).trans ?_
  obtain ⟨h1, -, h3⟩ := foldl_least _ step_least
    (Host.argReduceFiber d (iotaInDim S2048x512 32 1) reducesTo_S2048x512_S2048_d1 (ix1 n))
    (constant (F := Ideal) S_ .f32 0x7F800000#32 (Shape.Idx.first h_S_), constantI S_ 32 0#32 (Shape.Idx.first h_S_))
  have hk := h3 _ ((mem_fiber d n _).mpr ⟨k, rfl⟩)
  generalize List.foldl _ _ _ = r at h1 hk ⊢
  have hinf : constant (F := Ideal) S_ .f32 0x7F800000#32 (Shape.Idx.first h_S_) = (⊤ : EReal) := by
    show Ideal.ofBits .f32 0x7F800000#32 = ⊤
    simp [Ideal.ofBits, Ideal.ieee]
  rcases h1 with rfl | hm
  · rw [hinf] at hk
    rcases hk with hk | ⟨hk, -⟩
    · exact absurd hk not_top_lt
    · exact absurd hk htop.ne'
  · obtain ⟨j, rfl⟩ := (mem_fiber d n _).mp hm
    rcases hk with hk | ⟨hk, hi⟩
    · exact absurd hk (not_lt.mpr (h.1 j))
    · rw [toInt_ofNat (by omega), toInt_ofNat (by omega)] at hi
      rcases lt_or_eq_of_le (show j.val ≤ k.val by omega) with hl | hl
      · exact absurd hk (h.2 j hl).ne'
      · exact congrArg (BitVec.ofNat 32) hl

end Cert.ReferenceIdeal.RefValue

end
-- ==== Proof.RefTake.lean ====
/-
  The lookup of the reference: at an index word that holds a place of the table, the row of the table at that place.
-/
module

public import proofs.«01_k».proof.Proof.RefRun
public import proofs.«01_k».proof.Proof.FirstLeast
public import Idealize.ShloMosaic.Lib.Pointwise

@[expose] public section

set_option maxRecDepth 16384

noncomputable section

namespace Cert.ReferenceIdeal.RefValue

open Idealize.ShloMosaic Cert.ReferenceIdeal Cert.ReferenceIdeal.Gen Cert.FirstLeast

/-- The gather reads the whole polyline at the index word, read signed and clamped into the table. -/
theorem gather_apply (y : FVec Ideal S512x20x2 .f32) (w : IVec S2048x1 32) (n : Fin 2048) (p : Fin 20) (e : Fin 2) (k : Fin 512)
    (hk : w (ix2 n 0) = BitVec.ofNat 32 k.val) :
    Host.gather gather_S512x20x2_S2048x1_S2048x20x2_12_0_n_n_0_1_1202 y w (ix3 n p e) = y (ix3 k p e) := by
  unfold Host.gather
  refine congrArg y (funext fun a => Fin.ext ?_)
  generalize hd : gather_S512x20x2_S2048x1_S2048x20x2_12_0_n_n_0_1_1202 = d
  show d.start (ix3 n p e) w a + d.batchCoord (ix3 n p e) a + d.offCoord (ix3 n p e) a = _
  have hb : d.batchCoord (ix3 n p e) a = 0 := d.batchCoord_eq_zero _ _ (by subst hd; exact List.not_mem_nil)
  rw [hb, Nat.add_zero]
  have h512 := k.isLt
  match a with
  | ⟨0, _⟩ =>
    have ho : d.offCoord (ix3 n p e) 0 = 0 :=
      d.offCoord_eq_zero _ _ fun h => ((d.mem_sKept _).mp h).1 (by subst hd; exact List.mem_singleton.mpr rfl)
    have hs : d.start (ix3 n p e) w 0 = k.val := by
      subst hd
      unfold GatherDims.start
      rw [dif_pos (show (0 : Fin 3) ∈ gather_S512x20x2_S2048x1_S2048x20x2_12_0_n_n_0_1_1202.startIndexMap from List.mem_singleton.mpr rfl)]
      refine Eq.trans (congrArg (fun z : BitVec 32 => min z.toInt.toNat (512 - 1)) (Eq.trans (congrArg w ?_) hk)) ?_
      · funext b
        refine Fin.ext ?_
        match b with
        | ⟨0, _⟩ => rfl
        | ⟨1, _⟩ => rfl
      · show min (BitVec.ofNat 32 k.val).toInt.toNat (512 - 1) = k.val
        rw [toInt_ofNat (by omega)]
        omega
    exact (congrArg₂ (· + ·) hs ho).trans (Nat.add_zero _)
  | ⟨1, _⟩ =>
    have hs : d.start (ix3 n p e) w 1 = 0 := by
      subst hd
      unfold GatherDims.start
      rw [dif_neg (by decide)]
    have ho : d.offCoord (ix3 n p e) 1 = p.val := by subst hd; rfl
    exact (congrArg₂ (· + ·) hs ho).trans (Nat.zero_add _)
  | ⟨2, _⟩ =>
    have hs : d.start (ix3 n p e) w 2 = 0 := by
      subst hd
      unfold GatherDims.start
      rw [dif_neg (by decide)]
    have ho : d.offCoord (ix3 n p e) 2 = e.val := by subst hd; rfl
    exact (congrArg₂ (· + ·) hs ho).trans (Nat.zero_add _)

/-- A place of the table is not negative, so it is not wrapped. -/
theorem wrapped_apply (i : IVec S2048 32) (n : Fin 2048) (k : Fin 512) (hk : i (ix1 n) = BitVec.ofNat 32 k.val) :
    wrapped i (ix2 n 0) = BitVec.ofNat 32 k.val := by
  unfold wrapped
  pointwise
  rw [hk]
  have h : IntOp.cmpi CmpIPredicate.slt (BitVec.ofNat 32 k.val) 0#32 = 0#1 := by
    have e := toInt_ofNat (k := k.val) (by omega)
    have : ¬ (BitVec.ofNat 32 k.val).toInt < (0#32 : BitVec 32).toInt := by rw [e]; simp
    simp only [IntOp.cmpi, BitVec.slt, decide_eq_false this]
    rfl
  rw [h]
  rfl

/-- A place of the table is inside it. -/
theorem inside_apply (w : IVec S2048x1 32) (n : Fin 2048) (k : Fin 512) (hk : w (ix2 n 0) = BitVec.ofNat 32 k.val) :
    inside w (ix1 n) = 1#1 := by
  unfold inside
  pointwise
  have e := toInt_ofNat (k := k.val) (by omega)
  have h1 : IntOp.cmpi CmpIPredicate.sge (BitVec.ofNat 32 k.val) 0#32 = 1#1 := by
    have : (0#32 : BitVec 32).toInt ≤ (BitVec.ofNat 32 k.val).toInt := by rw [e]; simp
    simp only [IntOp.cmpi, BitVec.sle, decide_eq_true this]
    rfl
  have h2 : IntOp.cmpi CmpIPredicate.sle (BitVec.ofNat 32 k.val) 511#32 = 1#1 := by
    have : (BitVec.ofNat 32 k.val).toInt ≤ (511#32 : BitVec 32).toInt := by
      rw [e, show (511#32 : BitVec 32).toInt = 511 by decide]
      have := k.isLt
      omega
    simp only [IntOp.cmpi, BitVec.sle, decide_eq_true this]
    rfl
  rw [Finset.univ_unique, Finset.fold_singleton]
  show IntOp.andi (IntOp.andi (IntOp.cmpi CmpIPredicate.sge (w (ix2 n 0)) 0#32) (IntOp.cmpi CmpIPredicate.sle (w (ix2 n 0)) 511#32)) 1#1 = 1#1
  rw [hk, h1, h2]
  rfl

/-- The lookup at a place of the table. -/
theorem taken_apply (y : FVec Ideal S512x20x2 .f32) (i : IVec S2048 32) (n : Fin 2048) (p : Fin 20) (e : Fin 2) (k : Fin 512)
    (hk : i (ix1 n) = BitVec.ofNat 32 k.val) : taken y (wrapped i) (ix3 n p e) = y (ix3 k p e) := by
  have hw := wrapped_apply i n k hk
  unfold taken
  pointwise
  rw [inside_apply _ n k hw, gather_apply y _ n p e k hw]
  rfl

/-- A column of places, at an index. -/
theorem column_apply (i : IVec S2048 32) (n : Fin 2048) : broadcastInDim S2048x1 ![0] bcast_S2048_S2048x1_0 i (ix2 n 0) = i (ix1 n) := by
  pointwise

/-- The third result at an index. -/
theorem places_apply (x : FVec Ideal S2048x20x2 .f32) (y : FVec Ideal S512x20x2 .f32) (n : Fin 2048) (w : BitVec 32)
    (h : place (mean x y) (ix1 n) = w) : places x y (ix2 n 0) = w :=
  (column_apply _ n).trans h

/-- The flat lookup at an index. -/
theorem flat_apply (y : FVec Ideal S512x20x2 .f32) (i : IVec S2048 32) (n : Fin 2048) (j : Fin 40) (k : Fin 512)
    (h : i (ix1 n) = BitVec.ofNat 32 k.val) :
    shapeCast S2048x40 (taken y (wrapped i)) shapeCasts_S2048x20x2_S2048x40 (ix2 n j)
      = y (ix3 k (⟨j.val / 2, by omega⟩ : Fin 20) (⟨j.val % 2, by omega⟩ : Fin 2)) := by
  pointwise
  exact taken_apply y i n _ _ k h

/-- The first result at an index. -/
theorem matched_apply (x : FVec Ideal S2048x20x2 .f32) (y : FVec Ideal S512x20x2 .f32) (n : Fin 2048) (j : Fin 40) (k : Fin 512)
    (h : place (mean x y) (ix1 n) = BitVec.ofNat 32 k.val) :
    matched x y (ix2 n j) = y (ix3 k (⟨j.val / 2, by omega⟩ : Fin 20) (⟨j.val % 2, by omega⟩ : Fin 2)) :=
  flat_apply y _ n j k h

end Cert.ReferenceIdeal.RefValue

end
-- ==== Proof.Distance.lean ====
/-
  The distance of two points with real coordinates: `d * rsqrt d` is the root of `d`, a real, because the guard keeps the
  squared distance `d` above zero.
-/
module

public import proofs.«01_k».proof.Proof.KernelAcc

@[expose] public section

noncomputable section

namespace Cert.KernelIdeal.BlockValue

open Idealize.ShloMosaic

/-- The guard is a positive real. -/
theorem guard_pos : ∃ g : ℝ, 0 < g ∧ guard = (g : EReal) := by
  refine ⟨_, ?_, (by simp [guard, Ideal.ofBits, Ideal.ieee, -EReal.coe_mul]; rfl)⟩
  positivity

/-- The guarded square of a distance between real points is a positive real. -/
theorem sq_real (a a' b b' : ℝ) : ∃ r : ℝ, 0 < r ∧ sq (a : EReal) a' b b' = (r : EReal) := by
  obtain ⟨g, hg, e⟩ := guard_pos
  refine ⟨(a - a') * (a - a') + (b - b') * (b - b') + g, ?_, ?_⟩
  · have := mul_self_nonneg (a - a')
    have := mul_self_nonneg (b - b')
    linarith
  · rw [sq, e]
    norm_cast

/-- The distance between real points, as the kernel writes it, is the root, and it is a real. -/
theorem dist_real (a a' b b' : ℝ) :
    dist (a : EReal) a' b b' = Ideal.sqrt (sq (a : EReal) a' b b') ∧ ∃ r : ℝ, dist (a : EReal) a' b b' = (r : EReal) := by
  obtain ⟨r, hr, e⟩ := sq_real a a' b b'
  have hs : dist (a : EReal) a' b b' = ((√r : ℝ) : EReal) := by
    rw [dist, e, Ideal.rsqrt_coe, if_neg hr.le.not_gt, if_neg hr.ne', ← EReal.coe_mul]
    congr 1
    rw [← div_eq_mul_inv, Real.div_sqrt]
  refine ⟨?_, _, hs⟩
  rw [hs, e, Ideal.sqrt_coe, if_neg hr.le.not_gt]

/-- A finite sum of reals is a real. -/
theorem sum_real {ι : Type} (s : Finset ι) (f : ι → EReal) (h : ∀ i, ∃ r : ℝ, f i = (r : EReal)) : ∃ r : ℝ, ∑ i ∈ s, f i = (r : EReal) := by
  classical
  induction s using Finset.induction_on with
  | empty => exact ⟨0, by simp⟩
  | insert i s hi ih =>
    obtain ⟨a, ha⟩ := h i
    obtain ⟨b, hb⟩ := ih
    exact ⟨a + b, by rw [Finset.sum_insert hi, ha, hb, EReal.coe_add]⟩

end Cert.KernelIdeal.BlockValue

end
-- ==== Proof.Finite.lean ====
/-
  What the precondition says: every coordinate of both arguments is a real.
-/
module

public import proofs.«01_k».proof.Defs
public import proofs.«01_k».proof.Proof.Gen.Pre_finite
public import Idealize.ShloMosaic.Lib.Pointwise
public import Idealize.ShloMosaic.Lib.Claim
public import Idealize.ShloMosaic.Lib.ReduceAll

@[expose] public section

set_option maxRecDepth 16384

noncomputable section

namespace Cert.Finite

open Idealize.ShloMosaic Cert.Pre_finite

/-- An extended real whose absolute value is below the top is a real. -/
theorem real_of_abs (a : EReal) (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a with
  | bot => simp [Ideal.cmp] at h
  | top => simp [Ideal.cmp] at h
  | coe r => exact ⟨r, rfl⟩

variable [Facts]
open Facts

/-- The precondition makes every coordinate a real. -/
theorem reals (x : FVec Ideal S2048x20x2 .f32) (y : FVec Ideal S512x20x2 .f32) (h : fn (F := Ideal) x y = fun _ => 1#1) :
    (∀ i, ∃ r : ℝ, x i = (r : EReal)) ∧ ∀ i, ∃ r : ℝ, y i = (r : EReal) := by
  have h0 := congrFun h (Shape.Idx.first h_S_)
  dsimp only [fn] at h0
  obtain ⟨hx, hy⟩ := IntOp.andi_eq_one.mp h0
  exact ⟨fun i => real_of_abs _ (Host.reduce_andi_all _ _ _ _ _ hx i), fun i => real_of_abs _ (Host.reduce_andi_all _ _ _ _ _ hy i)⟩

end Cert.Finite

end
-- ==== Proof.Equation.lean ====
/-
  The equation: over arguments whose coordinates are all reals, the three arrays of the kernel are the three arrays of
  the reference.
-/
module

public import proofs.«01_k».proof.Proof.KernelValue
public import proofs.«01_k».proof.Proof.RefMean
public import proofs.«01_k».proof.Proof.RefPlace
public import proofs.«01_k».proof.Proof.RefTake
public import proofs.«01_k».proof.Proof.Distance
public import proofs.«01_k».proof.Proof.Finite

@[expose] public section

set_option maxRecDepth 16384

noncomputable section

namespace Cert.Equation

open Idealize.ShloMosaic Cert.FirstLeast
open Cert.KernelIdeal (S2048x20x2 S512x20x2 S2048x40 S2048x1)
open Cert.KernelIdeal.BlockValue (distSum nearest nearest_first)

variable {x : FVec Ideal S2048x20x2 .f32} {y : FVec Ideal S512x20x2 .f32}
  (hx : ∀ i, ∃ r : ℝ, x i = (r : EReal)) (hy : ∀ i, ∃ r : ℝ, y i = (r : EReal))

include hx hy

/-- Every distance of the kernel is the root that the reference takes, and a real. -/
theorem dist_eq (n : Fin 2048) (k : Fin 512) (p : Fin 20) :
    KernelIdeal.BlockValue.dist (x (ix3 n p 0)) (y (ix3 k p 0)) (x (ix3 n p 1)) (y (ix3 k p 1))
        = Ideal.sqrt (KernelIdeal.BlockValue.sq (x (ix3 n p 0)) (y (ix3 k p 0)) (x (ix3 n p 1)) (y (ix3 k p 1)))
      ∧ ∃ r : ℝ, KernelIdeal.BlockValue.dist (x (ix3 n p 0)) (y (ix3 k p 0)) (x (ix3 n p 1)) (y (ix3 k p 1)) = (r : EReal) := by
  obtain ⟨a, ha⟩ := hx (ix3 n p 0)
  obtain ⟨a', ha'⟩ := hy (ix3 k p 0)
  obtain ⟨b, hb⟩ := hx (ix3 n p 1)
  obtain ⟨b', hb'⟩ := hy (ix3 k p 1)
  rw [ha, ha', hb, hb']
  exact KernelIdeal.BlockValue.dist_real a a' b b'

/-- The sum of the distances is a real. -/
theorem distSum_real (n : Fin 2048) (k : Fin 512) : ∃ r : ℝ, distSum x y n k = (r : EReal) :=
  KernelIdeal.BlockValue.sum_real _ _ fun p => (dist_eq hx hy n k p).2

/-- The mean distance of the reference is the kernel's sum times one twentieth. -/
theorem mean_eq (n : Fin 2048) (k : Fin 512) :
    ReferenceIdeal.RefValue.mean x y (ix2 n k) = distSum x y n k * ((1 / 20 : ℝ) : EReal) := by
  rw [ReferenceIdeal.RefValue.mean_apply, ReferenceIdeal.RefValue.twenty, Ideal.div_coe (by norm_num)]
  exact congrArg (· * ((1 / 20 : ℝ) : EReal)) (Finset.sum_congr rfl fun p _ => (dist_eq hx hy n k p).1.symm)

/-- The mean distance is a real. -/
theorem mean_real (n : Fin 2048) (k : Fin 512) : ∃ r : ℝ, ReferenceIdeal.RefValue.mean x y (ix2 n k) = (r : EReal) := by
  obtain ⟨r, hr⟩ := distSum_real hx hy n k
  exact ⟨r * (1 / 20), by rw [mean_eq hx hy, hr, EReal.coe_mul]⟩

/-- The target at the first least sum of distances is the one at the first least mean. -/
theorem mean_first (n : Fin 2048) : First (fun k => ReferenceIdeal.RefValue.mean x y (ix2 n k)) (nearest x y n) := by
  have h20 : (0 : ℝ) < 1 / 20 := by norm_num
  refine (nearest_first x y n).map (fun j hj => ?_) (fun j hj => ?_) <;>
  · obtain ⟨a, ha⟩ := distSum_real hx hy n (nearest x y n)
    obtain ⟨b, hb⟩ := distSum_real hx hy n j
    simp only [mean_eq hx hy, ha, hb] at hj ⊢
    norm_cast at hj ⊢
    first | exact mul_le_mul_of_nonneg_right hj h20.le | exact mul_lt_mul_of_pos_right hj h20

/-- The reference finds the same target. -/
theorem place_eq (n : Fin 2048) :
    ReferenceIdeal.RefValue.place (ReferenceIdeal.RefValue.mean x y) (ix1 n) = BitVec.ofNat 32 (nearest x y n).val := by
  refine ReferenceIdeal.RefValue.place_apply _ n _ (mean_first hx hy n) ?_
  obtain ⟨r, hr⟩ := mean_real hx hy n (nearest x y n)
  rw [hr]
  exact EReal.coe_lt_top r

/-- The third results agree. -/
theorem places_eq : KernelIdeal.BlockValue.places x y = ReferenceIdeal.RefValue.places x y := by
  funext j
  idx_vars j
  obtain rfl := Subsingleton.elim j1 0
  exact (ReferenceIdeal.RefValue.places_apply x y j0 _ (place_eq hx hy j0)).symm

/-- The second results agree. -/
theorem confidence_eq :
    KernelIdeal.BlockValue.confidence x y = ReferenceIdeal.RefValue.confidence (ReferenceIdeal.RefValue.least (ReferenceIdeal.RefValue.mean x y)) := by
  funext j
  idx_vars j
  obtain rfl := Subsingleton.elim j1 0
  refine Eq.trans ?_ (ReferenceIdeal.RefValue.confidence_apply _ j0).symm
  rw [ReferenceIdeal.RefValue.least_apply _ _ _ (mean_first hx hy j0), mean_eq hx hy]
  show KernelIdeal.BlockValue.conf (distSum x y j0 (nearest x y j0) * ((1 / 20 : ℝ) : EReal)) = _
  generalize distSum x y j0 (nearest x y j0) * ((1 / 20 : ℝ) : EReal) = d
  have h1 : Ideal.div (-d) 1 = 0 - d := by
    rw [show (1 : EReal) = ((1 : ℝ) : EReal) from rfl, Ideal.div_coe one_ne_zero, zero_sub]
    norm_num
  rw [h1]
  rfl

/-- The first results agree. -/
theorem matched_eq : KernelIdeal.BlockValue.matched x y = ReferenceIdeal.RefValue.matched x y := by
  funext j
  idx_vars j
  exact (ReferenceIdeal.RefValue.matched_apply x y j0 j1 _ (place_eq hx hy j0)).symm

end Cert.Equation

end
-- ==== Proof.Unguarded.lean ====
/-
  What the guard under the root costs: between points with real coordinates the guarded distance is no less than the
  distance and no more than the distance plus the tolerance, and so are the means over twenty points.
-/
module

public import proofs.«01_k».proof.Proof.KernelValue
public import proofs.«01_k».proof.Proof.RefMean
public import proofs.«01_k».proof.Proof.Distance

@[expose] public section

set_option maxRecDepth 16384

noncomputable section

namespace Cert.Near

open Idealize.ShloMosaic
open Cert.KernelIdeal (S2048x20x2 S512x20x2)
open Cert.KernelIdeal.BlockValue (distSum)

/-- The tolerance, the f32 nearest 2e-10. -/
def tol : ℝ := 14411519 / 2 ^ 56

/-- The tolerance, read off its word. -/
theorem tol_eq : Ideal.ofBits .f32 0x2F5BE6FF#32 = (tol : EReal) := by
  simp [tol, Ideal.ofBits, Ideal.ieee, -EReal.coe_mul]
  norm_num

theorem tol_pos : 0 < tol := by unfold tol; positivity

/-- The guard is a positive real, below the square of the tolerance. -/
theorem guard_le : ∃ g : ℝ, 0 < g ∧ g ≤ tol * tol ∧ KernelIdeal.BlockValue.guard = (g : EReal) := by
  refine ⟨12379400 / 2 ^ 90, by positivity, by unfold tol; norm_num, ?_⟩
  simp [KernelIdeal.BlockValue.guard, Ideal.ofBits, Ideal.ieee, -EReal.coe_mul]
  norm_num

/-- The mean distance of predicted polyline `n` to target `k`, with no guard. -/
def bare (x : FVec Ideal S2048x20x2 .f32) (y : FVec Ideal S512x20x2 .f32) (n : Fin 2048) (k : Fin 512) : EReal :=
  Ideal.div
    (∑ p : Fin 20, Ideal.sqrt (∑ e : Fin 2, (x (ix3 n p e) - y (ix3 k p e)) * (x (ix3 n p e) - y (ix3 k p e))))
    (Ideal.ofBits .f32 0x41A00000#32)

/-- A sum of reals, read in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The root of a number plus a guard. -/
theorem sqrt_guard {r g t : ℝ} (hr : 0 ≤ r) (hg : 0 < g) (ht : 0 < t) (hgt : g ≤ t * t) : √r ≤ √(r + g) ∧ √(r + g) ≤ √r + t := by
  refine ⟨Real.sqrt_le_sqrt (by linarith), ?_⟩
  rw [Real.sqrt_le_iff]
  have h0 := Real.sqrt_nonneg r
  refine ⟨by linarith, ?_⟩
  nlinarith [Real.mul_self_sqrt hr, mul_nonneg h0 ht.le]

/-- One point: the distance, and the guarded distance as the kernel writes it. -/
theorem point_bound (a a' b b' : ℝ) :
    ∃ s d : ℝ, Ideal.sqrt (((a : EReal) - a') * (a - a') + (b - b') * (b - b')) = (s : EReal)
      ∧ KernelIdeal.BlockValue.dist (a : EReal) a' b b' = (d : EReal) ∧ 0 ≤ s ∧ s ≤ d ∧ d ≤ s + tol := by
  obtain ⟨g, hg, hgt, e⟩ := guard_le
  have hr : 0 ≤ (a - a') * (a - a') + (b - b') * (b - b') := add_nonneg (mul_self_nonneg _) (mul_self_nonneg _)
  generalize hR : (a - a') * (a - a') + (b - b') * (b - b') = r at hr
  have h1 : ((a : EReal) - a') * (a - a') + (b - b') * (b - b') = (r : EReal) := by rw [← hR]; norm_cast
  obtain ⟨h2, h3⟩ := sqrt_guard hr hg tol_pos hgt
  refine ⟨√r, √(r + g), ?_, ?_, Real.sqrt_nonneg r, h2, h3⟩
  · rw [h1, Ideal.sqrt_coe, if_neg hr.not_gt]
  · rw [(KernelIdeal.BlockValue.dist_real a a' b b').1, KernelIdeal.BlockValue.sq, h1, e, ← EReal.coe_add, Ideal.sqrt_coe,
      if_neg (by linarith : ¬ r + g < 0)]

variable {x : FVec Ideal S2048x20x2 .f32} {y : FVec Ideal S512x20x2 .f32}
  (hx : ∀ i, ∃ r : ℝ, x i = (r : EReal)) (hy : ∀ i, ∃ r : ℝ, y i = (r : EReal))

include hx hy

/-- The two means: reals, not negative, the guarded one no less and at most the tolerance more. -/
theorem mean_bound (n : Fin 2048) (k : Fin 512) :
    ∃ u v : ℝ, bare x y n k = (u : EReal) ∧ distSum x y n k * ((1 / 20 : ℝ) : EReal) = (v : EReal)
      ∧ 0 ≤ u ∧ u ≤ v ∧ v ≤ u + tol := by
  have hp : ∀ p : Fin 20, ∃ s d : ℝ,
      Ideal.sqrt (∑ e : Fin 2, (x (ix3 n p e) - y (ix3 k p e)) * (x (ix3 n p e) - y (ix3 k p e))) = (s : EReal)
        ∧ KernelIdeal.BlockValue.dist (x (ix3 n p 0)) (y (ix3 k p 0)) (x (ix3 n p 1)) (y (ix3 k p 1)) = (d : EReal)
        ∧ 0 ≤ s ∧ s ≤ d ∧ d ≤ s + tol := fun p => by
    obtain ⟨a, ha⟩ := hx (ix3 n p 0)
    obtain ⟨a', ha'⟩ := hy (ix3 k p 0)
    obtain ⟨b, hb⟩ := hx (ix3 n p 1)
    obtain ⟨b', hb'⟩ := hy (ix3 k p 1)
    rw [Fin.sum_univ_two, ha, ha', hb, hb']
    exact point_bound a a' b b'
  choose s d hs hd h0 hsd hds using hp
  have hsum : ∑ p, d p ≤ ∑ p, s p + 20 * tol := by
    calc ∑ p, d p ≤ ∑ p : Fin 20, (s p + tol) := Finset.sum_le_sum fun p _ => hds p
      _ = ∑ p, s p + 20 * tol := by rw [Finset.sum_add_distrib]; simp
  have hle : ∑ p, s p ≤ ∑ p, d p := Finset.sum_le_sum fun p _ => hsd p
  have hnn : 0 ≤ ∑ p, s p := Finset.sum_nonneg fun p _ => h0 p
  refine ⟨(∑ p, s p) * (1 / 20), (∑ p, d p) * (1 / 20), ?_, ?_, by positivity, by linarith, by linarith⟩
  · rw [bare, ReferenceIdeal.RefValue.twenty, Ideal.div_coe (by norm_num), Finset.sum_congr rfl fun p _ => hs p, sum_coe, ← EReal.coe_mul]
  · rw [distSum, Finset.sum_congr rfl fun p _ => hd p, sum_coe, ← EReal.coe_mul]

end Cert.Near

end
-- ==== Proof.PostNear.lean ====
/-
  The kernel's results against the reference's distances with no guard: the target copied out is the one at the index,
  its distance is the least up to the tolerance, the confidence is that of the least distance up to the tolerance.
-/
module

public import proofs.«01_k».proof.Proof.Equation
public import proofs.«01_k».proof.Proof.Unguarded
public import proofs.«01_k».proof.Post_near_unguarded
public import proofs.«01_k».proof.Proof.Gen.Post_near_unguarded

@[expose] public section

set_option maxRecDepth 16384

noncomputable section

namespace Cert.Near

open Idealize.ShloMosaic Cert.FirstLeast Cert.Post_near_unguarded Cert.Post_near_unguarded.Gen
open Cert.KernelIdeal.BlockValue (distSum nearest nearest_first conf)

/-- The least mean distance of predicted polyline `n`, with no guard. -/
def bareLeast (x : FVec Ideal S2048x20x2 .f32) (y : FVec Ideal S512x20x2 .f32) (n : Fin 2048) : EReal :=
  Finset.fold min (Ideal.ofBits .f32 0x7F800000#32) (bare x y n) Finset.univ

/-- The lookup of the postcondition at a place of the table. -/
theorem take_apply (y : FVec Ideal S512x20x2 .f32) (i : IVec S2048 32) (n : Fin 2048) (p : Fin 20) (e : Fin 2) (k : Fin 512)
    (h : i (ix1 n) = BitVec.ofNat 32 k.val) : fn_take (F := Ideal) y i (ix3 n p e) = y (ix3 k p e) :=
  ReferenceIdeal.RefValue.taken_apply y i n p e k h

/-- The fold of `and` over words that are all one. -/
theorem fold_one {ι : Type} [DecidableEq ι] (s : Finset ι) (f : ι → BitVec 1) (h : ∀ i, f i = 1#1) : s.fold IntOp.andi 1#1 f = 1#1 := by
  induction s using Finset.induction_on with
  | empty => rfl
  | insert i s hi ih => rw [Finset.fold_insert hi, h i, ih]; rfl

/-- What the confidence may be, given the least distance: within the tolerance of `exp (-least)` up to the threshold,
    zero past it, either within the tolerance of it. -/
def Confident (b least : EReal) : Prop :=
  (FloatOps.absf (F := Ideal) (φ := .f32) (b - Ideal.exp (Ideal.div (-least) 1)) ≤ Ideal.ofBits .f32 0x2F5BE6FF#32
      ∧ least ≤ Ideal.ofBits .f32 0x40000000#32)
    ∨ (b = 0 ∧ Ideal.ofBits .f32 0x40000000#32 < least + Ideal.ofBits .f32 0x2F5BE6FF#32)

/-- The postcondition at row `n`, from what it asks of that row. -/
theorem fn_apply (x : FVec Ideal S2048x20x2 .f32) (y : FVec Ideal S512x20x2 .f32) (a : FVec Ideal S2048x40 .f32)
    (b : FVec Ideal S2048x1 .f32) (c : IVec S2048x1 32) (n : Fin 2048) (k : Fin 512)
    (hc : c (ix2 n 0) = BitVec.ofNat 32 k.val)
    (ha : ∀ j : Fin 40, a (ix2 n j) = y (ix3 k (⟨j.val / 2, by omega⟩ : Fin 20) (⟨j.val % 2, by omega⟩ : Fin 2)))
    (hn : bare x y n k ≤ bareLeast x y n + Ideal.ofBits .f32 0x2F5BE6FF#32)
    (hb : Confident (b (ix2 n 0)) (bareLeast x y n)) :
    fn (F := Ideal) x y a b c (ix1 n) = 1#1 := by
  have hi : shapeCast S2048 c shapeCasts_S2048x1_S2048 (ix1 n) = BitVec.ofNat 32 k.val := by
    pointwise
    exact hc
  have ht := fun p e => take_apply y _ n p e k hi
  unfold fn fn_part1 fn_part2
  dsimp only
  generalize fn_take (F := Ideal) y _ = t at ht ⊢
  pointwise
  have hk := toInt_ofNat (k := k.val) (by omega)
  have h512 := k.isLt
  simp only [ht, ← ha, hc]
  refine IntOp.andi_eq_one.mpr ⟨IntOp.andi_eq_one.mpr ⟨IntOp.andi_eq_one.mpr ⟨IntOp.andi_eq_one.mpr ⟨?_, ?_⟩, ?_⟩, ?_⟩, ?_⟩
  · have : (0#32 : BitVec 32).toInt ≤ (BitVec.ofNat 32 k.val).toInt := by rw [hk]; simp
    simp only [IntOp.cmpi, BitVec.sle, decide_eq_true this]
    rfl
  · have : (BitVec.ofNat 32 k.val).toInt < (512#32 : BitVec 32).toInt := by
      rw [hk, show (512#32 : BitVec 32).toInt = 512 by decide]
      omega
    simp only [IntOp.cmpi, BitVec.slt, decide_eq_true this]
    rfl
  · exact fold_one _ _ fun j => by simp
  · exact congrArg BitVec.ofBool (decide_eq_true hn)
  · rcases hb with ⟨h1, h2⟩ | ⟨h1, h2⟩
    · have e : ∀ w : BitVec 1, IntOp.ori 1#1 w = 1#1 := by decide
      exact (congrArg (IntOp.ori · _) (IntOp.andi_eq_one.mpr
        ⟨congrArg BitVec.ofBool (decide_eq_true h1), congrArg BitVec.ofBool (decide_eq_true h2)⟩)).trans (e _)
    · have e : ∀ w : BitVec 1, IntOp.ori w 1#1 = 1#1 := by decide
      exact (congrArg (IntOp.ori _) (IntOp.andi_eq_one.mpr
        ⟨congrArg BitVec.ofBool (decide_eq_true h1), congrArg BitVec.ofBool (decide_eq_true h2)⟩)).trans (e _)

/-- `exp (-d)` moves by no more than `d` does. -/
theorem exp_close {u v t : ℝ} (h0 : 0 ≤ u) (h : u ≤ v) (ht : v ≤ u + t) : |Real.exp (-v) - Real.exp (-u)| ≤ t := by
  have h1 : Real.exp (-v) ≤ Real.exp (-u) := Real.exp_le_exp.mpr (by linarith)
  have h2 : Real.exp (-u) ≤ 1 := Real.exp_le_one_iff.mpr (by linarith)
  have h3 := Real.add_one_le_exp (-(v - u))
  have h4 : Real.exp (-v) = Real.exp (-u) * Real.exp (-(v - u)) := by rw [← Real.exp_add]; congr 1; ring
  have h5 := Real.exp_pos (-u)
  rw [abs_sub_comm, abs_of_nonneg (by linarith), h4]
  nlinarith

/-- The threshold, read off its word. -/
theorem two : Ideal.ofBits .f32 0x40000000#32 = ((2 : ℝ) : EReal) := by
  simp [Ideal.ofBits, Ideal.ieee, -EReal.coe_mul]
  norm_num

/-- The kernel's confidence of the guarded mean `v` serves a least distance `u` within the tolerance below it. -/
theorem confident {u v : ℝ} (h0 : 0 ≤ u) (h : u ≤ v) (ht : v ≤ u + tol) : Confident (conf (v : EReal)) (u : EReal) := by
  unfold Confident conf
  rw [two, tol_eq]
  by_cases hv : 2 < v
  · right
    refine ⟨if_pos (by exact_mod_cast hv), ?_⟩
    rw [← EReal.coe_add]
    exact_mod_cast lt_of_lt_of_le hv ht
  · left
    refine ⟨?_, by exact_mod_cast h.trans (not_lt.mp hv)⟩
    rw [if_neg (by exact_mod_cast hv)]
    have e1 : Ideal.div (-(u : EReal)) 1 = ((-u : ℝ) : EReal) := by
      rw [show (1 : EReal) = ((1 : ℝ) : EReal) from rfl, Ideal.div_coe one_ne_zero]
      simp
    have e2 : (0 : EReal) - (v : EReal) = ((-v : ℝ) : EReal) := by simp
    have e3 : ∀ r : ℝ, FloatOps.absf (F := Ideal) (φ := .f32) (r : EReal) = ((|r| : ℝ) : EReal) := fun r => by
      rw [Ideal.absf_def, ← EReal.coe_neg]
      exact (EReal.coe_strictMono.monotone.map_max (a := r) (b := -r)).symm
    rw [e1, e2, Ideal.exp_coe, Ideal.exp_coe, ← EReal.coe_sub, e3]
    exact_mod_cast exp_close h0 h ht

/-- The kernel's three arrays meet the postcondition at every row. -/
theorem post_holds {x : FVec Ideal S2048x20x2 .f32} {y : FVec Ideal S512x20x2 .f32}
    (hx : ∀ i, ∃ r : ℝ, x i = (r : EReal)) (hy : ∀ i, ∃ r : ℝ, y i = (r : EReal)) :
    fn (F := Ideal) x y (KernelIdeal.BlockValue.matched x y) (KernelIdeal.BlockValue.confidence x y) (KernelIdeal.BlockValue.places x y)
      = fun _ => 1#1 := by
  funext j
  idx_vars j
  obtain ⟨i, hi⟩ := exists_first (bare x y j0)
  have hleast : bareLeast x y j0 = bare x y j0 i := by
    have : Ideal.ofBits .f32 0x7F800000#32 = ⊤ := by simp [Ideal.ofBits, Ideal.ieee]
    rw [bareLeast, this]
    exact fold_min hi
  have hmin := (Equation.mean_first hx hy j0).1 i
  simp only [Equation.mean_eq hx hy] at hmin
  have hle := hi.1 (nearest x y j0)
  obtain ⟨u, v, hu, hv, h0, huv, hvu⟩ := mean_bound hx hy j0 i
  obtain ⟨u', v', hu', hv', -, huv', -⟩ := mean_bound hx hy j0 (nearest x y j0)
  rw [hv, hv'] at hmin
  rw [hu, hu'] at hle
  have hmin' : v' ≤ v := by exact_mod_cast hmin
  have hle' : u ≤ u' := by exact_mod_cast hle
  refine fn_apply x y _ _ _ j0 (nearest x y j0) rfl (fun _ => rfl) ?_ ?_
  · rw [hleast, hu, hu', tol_eq, ← EReal.coe_add]
    exact_mod_cast (by linarith : u' ≤ u + tol)
  · rw [hleast, hu]
    show Confident (conf (distSum x y j0 (nearest x y j0) * ((1 / 20 : ℝ) : EReal))) _
    rw [hv']
    exact confident h0 (by linarith) (by linarith)

end Cert.Near

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite
public import proofs.«01_k».proof.Proof.Gen.Post_near_unguarded
public import proofs.«01_k».proof.Proof.Equation
public import proofs.«01_k».proof.Proof.PostNear
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The reference runs, leaves its arguments as they were, and uses no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0 :=
  θ_run_mono (Cert.ReferenceIdeal.RefValue.run m g) fun r h =>
    ⟨fun c => ⟨(h c).2.2.2.1, (h c).2.2.2.2⟩, sem_eq_zero_of_no_sems (by decide) r.2⟩

/-- The claim: the frames, the named constant, the equality of the kernel's three arrays with the reference's, and what
    they are against the distances with no guard. -/
theorem claim : Cert.Claim := ⟨Cert.Kernel.Gen.facts, Cert.KernelIdeal.Gen.facts, Cert.ReferenceIdeal.Gen.facts, Cert.Pre_finite.Gen.facts,
    Cert.Post_near_unguarded.Gen.facts, by
  refine ⟨?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m ρ _ => reference_frame m ρ
  · exact fun m ρ _ => reference_frame m ρ
  · exact IdealRules.named_const.statement Cert.KernelIdeal.κ "inv_points" .f32 0x3D4CCCCD#32 ((1/20:ℝ):EReal) rfl
  · pair_intro
    · run_from (Cert.KernelIdeal.Value.run_blocks m g)
    · refine θ_run_mono (Cert.ReferenceIdeal.RefValue.run m' g') fun r h c => ?_
      obtain ⟨h1, h2, h3, h4, h5⟩ := h c
      obtain ⟨hx, hy⟩ := Cert.Finite.reals _ _ (hpre c)
      rw [(hagree c).1, (hagree c).2] at h1 h2 h3
      exact ⟨h1.trans ((Cert.KernelIdeal.BlockValue.arr3 m c).trans (Cert.Equation.matched_eq hx hy)).symm,
        h2.trans ((Cert.KernelIdeal.BlockValue.arr4 m c).trans (Cert.Equation.confidence_eq hx hy)).symm,
        h3.trans ((Cert.KernelIdeal.BlockValue.arr5 m c).trans (Cert.Equation.places_eq hx hy)).symm, h4, h5⟩
  · refine fun m g hpre => θ_run_mono (Cert.KernelIdeal.Value.run_blocks m g) fun r h c => ?_
    obtain ⟨h1, h2, h3, h4, h5⟩ := h c
    obtain ⟨hx, hy⟩ := Cert.Finite.reals _ _ (hpre c)
    refine ⟨h4, h5, ?_⟩
    rw [h1.trans (Cert.KernelIdeal.BlockValue.arr3 m c), h2.trans (Cert.KernelIdeal.BlockValue.arr4 m c),
      h3.trans (Cert.KernelIdeal.BlockValue.arr5 m c)]
    exact Cert.Near.post_holds hx hy⟩

end Cert.Proof

end
